-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_normal_inputs [hPre_normal_inputs : Cert.Pre_normal_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_normal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_normal_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_normal_inputs [hPre_normal_inputs : Cert.Pre_normal_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_normal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_normal_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_normal_inputs [hKernelIdeal : Cert.KernelIdeal.Facts] [hPre_normal_inputs : Cert.Pre_normal_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_normal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_normal_inputs [hReferenceIdeal : Cert.ReferenceIdeal.Facts] [hPre_normal_inputs : Cert.Pre_normal_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_normal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_normal_inputs [hKernelIdeal : Cert.KernelIdeal.Facts] [hReferenceIdeal : Cert.ReferenceIdeal.Facts] [hPre_normal_inputs : Cert.Pre_normal_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_normal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_normal_inputs : Cert.Pre_normal_inputs.Facts),
    quiescent_Kernel (hKernel := hKernel)
    ∧ quiescent_KernelIdeal (hKernelIdeal := hKernelIdeal)
    ∧ quiescent_KernelIdeal_pre_normal_inputs (hKernelIdeal := hKernelIdeal) (hPre_normal_inputs := hPre_normal_inputs)
    ∧ quiescent_ReferenceIdeal (hReferenceIdeal := hReferenceIdeal)
    ∧ quiescent_ReferenceIdeal_pre_normal_inputs (hReferenceIdeal := hReferenceIdeal) (hPre_normal_inputs := hPre_normal_inputs)
    ∧ preserves_Kernel_KernelIdeal
    ∧ algebraic_KernelIdeal_ReferenceIdeal_pre_normal_inputs (hKernelIdeal := hKernelIdeal) (hReferenceIdeal := hReferenceIdeal) (hPre_normal_inputs := hPre_normal_inputs)
-- ==== Pre_normal_inputs.lean ====
abbrev S3x256x4096 : Shape := ⟨3, ![3, 256, 4096]⟩
abbrev S4096x28672 : Shape := ⟨2, ![4096, 28672]⟩
abbrev S128x28672 : Shape := ⟨2, ![128, 28672]⟩
abbrev S3x256x28672 : Shape := ⟨3, ![3, 256, 28672]⟩
abbrev S_ : Shape := ⟨0, ![]⟩

class Facts : Prop where
  bcast_S_S3x256x4096 : S_.BroadcastsInDim S3x256x4096 (![] : Fin 0 → Fin S3x256x4096.rank)
  bcast_S_S128x28672 : S_.BroadcastsInDim S128x28672 (![] : Fin 0 → Fin S128x28672.rank)

variable [Facts]

def fn {F : FTy → Type} [FloatOps F] (main_arg0 : FVec F S3x256x4096 .bf16) (main_arg1 : FVec F S4096x28672 .fp8e4m3) (main_arg2 : IVec S128x28672 8) (main_arg3 : FVec F S3x256x28672 .bf16) : IVec S3x256x4096 1 × IVec S128x28672 1 :=
  let main_v0 : FVec F S3x256x4096 .bf16 := Host.absf main_arg0
  let main_cst : FVec F S_ .bf16 := constant S_ .bf16 0x7F7F#16
  let main_v1 : FVec F S3x256x4096 .bf16 := broadcastInDim S3x256x4096 ![] bcast_S_S3x256x4096 main_cst
  let main_v2 : IVec S3x256x4096 1 := cmpf .ole main_v0 main_v1
  let main_c : IVec S_ 8 := constantI S_ 8 1#8
  let main_v3 : IVec S128x28672 8 := broadcastInDim S128x28672 ![] bcast_S_S128x28672 main_c
  let main_v4 : IVec S128x28672 1 := cmpi .uge main_arg2 main_v3
  let main_c_0 : IVec S_ 8 := constantI S_ 8 254#8
  let main_v5 : IVec S128x28672 8 := broadcastInDim S128x28672 ![] bcast_S_S128x28672 main_c_0
  let main_v6 : IVec S128x28672 1 := cmpi .ule main_arg2 main_v5
  let main_v7 : IVec S128x28672 1 := andi main_v4 main_v6
  (main_v2, main_v7)
-- ==== Kernel.lean ====
abbrev S3x256x4096 : Shape := ⟨3, ![3, 256, 4096]⟩
abbrev S4096x28672 : Shape := ⟨2, ![4096, 28672]⟩
abbrev S128x28672 : Shape := ⟨2, ![128, 28672]⟩
abbrev S3x256x28672 : Shape := ⟨3, ![3, 256, 28672]⟩
abbrev S768x4096 : Shape := ⟨2, ![768, 4096]⟩
abbrev S768x128 : Shape := ⟨2, ![768, 128]⟩
abbrev S128x4096 : Shape := ⟨2, ![128, 4096]⟩
abbrev S128x128 : Shape := ⟨2, ![128, 128]⟩
abbrev S4096x512 : Shape := ⟨2, ![4096, 512]⟩
abbrev S128x512 : Shape := ⟨2, ![128, 512]⟩
abbrev S3x256x512 : Shape := ⟨3, ![3, 256, 512]⟩
abbrev S128x32x512 : Shape := ⟨3, ![128, 32, 512]⟩
abbrev S128x1x512 : Shape := ⟨3, ![128, 1, 512]⟩
abbrev S768x512 : Shape := ⟨2, ![768, 512]⟩
abbrev S3x256x128 : Shape := ⟨3, ![3, 256, 128]⟩

abbrev nBuf : Space → Nat
  | .hbm => 11
  | .vmem => 17
  | .smem => 0
  | _ => 0

abbrev bufTy : (tb : Table) → Fin (tcTables nBuf tb) → BufTy
  | .hbm, ⟨0, _⟩ => ⟨S3x256x4096, .bf16⟩
  | .hbm, ⟨1, _⟩ => ⟨S4096x28672, .fp8e4m3⟩
  | .hbm, ⟨2, _⟩ => ⟨S128x28672, .i8⟩
  | .hbm, ⟨3, _⟩ => ⟨S3x256x28672, .bf16⟩
  | .hbm, ⟨4, _⟩ => ⟨S768x4096, .bf16⟩
  | .hbm, ⟨5, _⟩ => ⟨S768x4096, .fp8e4m3⟩
  | .hbm, ⟨6, _⟩ => ⟨S768x128, .i8⟩
  | .hbm, ⟨7, _⟩ => ⟨S768x4096, .bf16⟩
  | .hbm, ⟨8, _⟩ => ⟨S3x256x28672, .bf16⟩
  | .hbm, ⟨9, _⟩ => ⟨S3x256x4096, .fp8e4m3⟩
  | .hbm, ⟨10, _⟩ => ⟨S3x256x128, .i8⟩
  | .local _ .vmem, ⟨0, _⟩ => ⟨S128x4096, .bf16⟩
  | .local _ .vmem, ⟨1, _⟩ => ⟨S128x4096, .bf16⟩
  | .local _ .vmem, ⟨2, _⟩ => ⟨S128x4096, .fp8e4m3⟩
  | .local _ .vmem, ⟨3, _⟩ => ⟨S128x4096, .fp8e4m3⟩
  | .local _ .vmem, ⟨4, _⟩ => ⟨S128x128, .i8⟩
  | .local _ .vmem, ⟨5, _⟩ => ⟨S128x128, .i8⟩
  | .local _ .vmem, ⟨6, _⟩ => ⟨S128x4096, .bf16⟩
  | .local _ .vmem, ⟨7, _⟩ => ⟨S128x4096, .bf16⟩
  | .local _ .vmem, ⟨8, _⟩ => ⟨S768x4096, .bf16⟩
  | .local _ .vmem, ⟨9, _⟩ => ⟨S4096x512, .fp8e4m3⟩
  | .local _ .vmem, ⟨10, _⟩ => ⟨S4096x512, .fp8e4m3⟩
  | .local _ .vmem, ⟨11, _⟩ => ⟨S128x512, .i8⟩
  | .local _ .vmem, ⟨12, _⟩ => ⟨S128x512, .i8⟩
  | .local _ .vmem, ⟨13, _⟩ => ⟨S3x256x512, .bf16⟩
  | .local _ .vmem, ⟨14, _⟩ => ⟨S3x256x512, .bf16⟩
  | .local _ .vmem, ⟨15, _⟩ => ⟨S3x256x512, .bf16⟩
  | .local _ .vmem, ⟨16, _⟩ => ⟨S3x256x512, .bf16⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![56], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage1_0 : Fin 1 → Memref sig .tc .vmem S768x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x512 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3x256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S3x256x512 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S3x256x4096 : Shape := ⟨3, ![3, 256, 4096]⟩
abbrev S4096x28672 : Shape := ⟨2, ![4096, 28672]⟩
abbrev S128x28672 : Shape := ⟨2, ![128, 28672]⟩
abbrev S3x256x28672 : Shape := ⟨3, ![3, 256, 28672]⟩
abbrev S3x256x128 : Shape := ⟨3, ![3, 256, 128]⟩
abbrev S768x128x32 : Shape := ⟨3, ![768, 128, 32]⟩
abbrev S768x128 : Shape := ⟨2, ![768, 128]⟩
abbrev S768x128x1 : Shape := ⟨3, ![768, 128, 1]⟩
abbrev S128x32x28672 : Shape := ⟨3, ![128, 32, 28672]⟩
abbrev S128x768x32 : Shape := ⟨3, ![128, 768, 32]⟩
abbrev S128x768x28672 : Shape := ⟨3, ![128, 768, 28672]⟩
abbrev S128x768 : Shape := ⟨2, ![128, 768]⟩
abbrev S128x768x1 : Shape := ⟨3, ![128, 768, 1]⟩
abbrev S128x1x28672 : Shape := ⟨3, ![128, 1, 28672]⟩
abbrev S768x28672 : Shape := ⟨2, ![768, 28672]⟩

abbrev nBuf : Space → Nat
  | .hbm => 7
  | .vmem => 7
  | .smem => 0
  | _ => 0

abbrev bufTy : (tb : Table) → Fin (tcTables nBuf tb) → BufTy
  | .hbm, ⟨0, _⟩ => ⟨S3x256x4096, .bf16⟩
  | .hbm, ⟨1, _⟩ => ⟨S4096x28672, .fp8e4m3⟩
  | .hbm, ⟨2, _⟩ => ⟨S128x28672, .i8⟩
  | .hbm, ⟨3, _⟩ => ⟨S3x256x28672, .bf16⟩
  | .hbm, ⟨4, _⟩ => ⟨S3x256x28672, .bf16⟩
  | .hbm, ⟨5, _⟩ => ⟨S3x256x4096, .fp8e4m3⟩
  | .hbm, ⟨6, _⟩ => ⟨S3x256x128, .i8⟩
  | .local _ .vmem, ⟨0, _⟩ => ⟨S3x256x4096, .bf16⟩
  | .local _ .vmem, ⟨1, _⟩ => ⟨S4096x28672, .fp8e4m3⟩
  | .local _ .vmem, ⟨2, _⟩ => ⟨S128x28672, .i8⟩
  | .local _ .vmem, ⟨3, _⟩ => ⟨S3x256x28672, .bf16⟩
  | .local _ .vmem, ⟨4, _⟩ => ⟨S3x256x28672, .bf16⟩
  | .local _ .vmem, ⟨5, _⟩ => ⟨S3x256x4096, .fp8e4m3⟩
  | .local _ .vmem, ⟨6, _⟩ => ⟨S3x256x128, .i8⟩
  | _, _ => ⟨S3x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S3x256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x28672 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x28672 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x256x28672 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x28672 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x256x4096 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x256x128 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Tile.lean ====
/- One 128 × 128 tile of the quantising kernel as functions of the tile it loads, and the three
   blocks a grid point leaves as those functions' values at the thirty-two tiles of its block. -/
module

public import proofs.«01_k».proof.Proof.Gen.KernelIdeal.Frame

@[expose] public section

set_option maxRecDepth 16384

noncomputable section

namespace Cert.Proof.Tile

open Idealize.ShloMosaic Idealize.ShloMosaic.TcCoe Idealize.ShloMosaic.Tactic Idealize.SL.Sem
open Cert.KernelIdeal Cert.KernelIdeal.Gen

variable {F : FTy → Type} [FloatOps F]

/-- The lane number of every element of a tile. -/
def lane : IVec S128x128 32 := iota .tc S128x128 32 [1] iota_S128x128_d1_w32

/-- The loaded tile, widened. -/
def wide (x : Vec F S128x128 .bf16) : FVec F S128x128 .f32 :=
  extf .f32 (shapeCast S128x128 x shapeCasts_S128x128_S128x128 : FVec F S128x128 .bf16) bitsLt_bf16_f32

/-- Every lane meets the lane whose number differs in the bit `shift`: the left rotation where the bit
    is clear, the right one where it is set (`back` is `128 - shift`). -/
def swap (shift back : BitVec 32) (a : FVec F S128x128 .f32) : FVec F S128x128 .f32 :=
  select (cmpi .eq (andi lane (broadcast S128x128 shift)) (broadcast S128x128 0#32))
    (dynamicRotate 1 back none a rotates_S128x128_d1) (dynamicRotate 1 shift none a rotates_S128x128_d1)

/-- One exchange: the larger of a lane and its partner. -/
def meet (shift back : BitVec 32) (a : FVec F S128x128 .f32) : FVec F S128x128 .f32 :=
  maximumf a (swap shift back a)

/-- The largest magnitude among the thirty-two lanes of every lane's group, in every one of them. -/
def amax (x : Vec F S128x128 .bf16) : FVec F S128x128 .f32 :=
  meet 16#32 112#32 (meet 8#32 120#32 (meet 4#32 124#32 (meet 2#32 126#32 (meet 1#32 127#32 (absf (wide x))))))

/-- That magnitude over the largest number of the narrow format. -/
def quot (a : FVec F S128x128 .f32) : FVec F S128x128 .f32 :=
  mulf a (broadcast S128x128 (Scalar.ofBits .f32 0x3B124925#32))

/-- The float whose exponent field is the word, its fraction being zero. -/
def pow (w : IVec S128x128 32) : FVec F S128x128 .f32 :=
  bitcastToFloat .f32 (shli w (broadcast S128x128 23#32))

/-- One step of the search for the exponent field: take the bit when the power is still not above `t`. -/
def step (t : FVec F S128x128 .f32) (bit : BitVec 32) (f : IVec S128x128 32) : IVec S128x128 32 :=
  select (cmpf .oge t (pow (addi f (broadcast S128x128 bit)))) (addi f (broadcast S128x128 bit)) f

/-- The exponent field of `t`, its eight bits found from the highest down. -/
def field (t : FVec F S128x128 .f32) : IVec S128x128 32 :=
  step t 1#32 (step t 2#32 (step t 4#32 (step t 8#32 (step t 16#32 (step t 32#32 (step t 64#32 (step t 128#32
    (broadcast S128x128 0#32))))))))

/-- The shared exponent of a tile's groups, zero where the whole group is. -/
def expo (a : FVec F S128x128 .f32) : IVec S128x128 32 :=
  select (cmpf .oeq a (broadcast S128x128 (Scalar.ofBits .f32 0x00000000#32))) (broadcast S128x128 0#32)
    (subi (field (quot a)) (broadcast S128x128 126#32))

/-- The codes of a tile. -/
def codes (x : Vec F S128x128 .bf16) : FVec F S128x128 .fp8e4m3 :=
  truncf .fp8e4m3 (minimumf (broadcast S128x128 (Scalar.ofBits .f32 0x43E00000#32))
    (maximumf (broadcast S128x128 (Scalar.ofBits .f32 0xC3E00000#32))
      (mulf (wide x) (pow (subi (broadcast S128x128 127#32) (expo (amax x))))))) bitsLt_fp8e4m3_f32

/-- The values the codes stand for. -/
def back (x : Vec F S128x128 .bf16) : FVec F S128x128 .bf16 :=
  truncf .bf16 (mulf (extf .f32 (codes x) bitsLt_fp8e4m3_f32)
    (pow (addi (broadcast S128x128 127#32) (expo (amax x))))) bitsLt_bf16_f32

/-- Which lane of the tile a column of the scales' block takes: lane `32 * (column - first)`. -/
def pick (first : BitVec 32) : FVec F S128x128 .bf16 :=
  truncf .bf16 (sitofp .f32 (extui 32 (cmpi .eq (iota .tc S128x128 32 [0] iota_S128x128_d0_w32)
    (muli (subi (iota .tc S128x128 32 [1] iota_S128x128_d1_w32) (broadcast S128x128 first))
      (broadcast S128x128 32#32))) natLt_1_32)) bitsLt_bf16_f32

/-- The stored scales of a tile, put to the tile's four columns of the scales' block. -/
def spread (first : BitVec 32) (x : Vec F S128x128 .bf16) : FVec F S128x128 .f32 :=
  matmul dot_S128x128_S128x128_S128x128_1_0_0_1_n_n none
    (sitofp .bf16 (addi (expo (amax x)) (broadcast S128x128 127#32)) : FVec F S128x128 .bf16) (pick first)
    (constant S128x128 .f32 0x00000000#32)

/-- Tile `j` of a block: lanes `128 j` to `128 j + 127`. -/
def rect (j : Fin 32) : Rect S128x4096 :=
  Rect.unit (s := S128x4096) ![0, 128 * j.val] S128x128.size (by
    intro a; fin_cases a <;> simp <;> omega)

/-- Tile `j` as loaded. -/
def load (x0 : Vec F S128x4096 .bf16) (j : Fin 32) : Vec F S128x128 .bf16 := View.ld x0 (rect j)

/-- The scales' block before it is made a block of words: the tiles' contributions added up in order. -/
def total (x0 : Vec F S128x4096 .bf16) : ℕ → FVec F S128x128 .f32
  | 0 => broadcast S128x128 (Scalar.ofBits .f32 0x00000000#32)
  | n + 1 => addf (total x0 n) (spread (BitVec.ofNat 32 (4 * n)) (load x0 (Fin.ofNat 32 n)))

/-- The block of codes a grid point leaves: every tile's codes. -/
theorem out1 (x0 : Vec F S128x4096 .bf16) :
    out0_1 x0 = View.canon (List.ofFn fun j : Fin 32 => ⟨rect j.rev, codes (load x0 j.rev)⟩) := by
  chain_rfl

/-- The block of values a grid point leaves: every tile's values. -/
theorem out3 (x0 : Vec F S128x4096 .bf16) :
    out0_3 x0 = View.canon (List.ofFn fun j : Fin 32 => ⟨rect j.rev, back (load x0 j.rev)⟩) := by
  chain_rfl

/-- The block of scales a grid point leaves: the tiles' contributions added up, as bytes. -/
theorem out2 (x0 : Vec F S128x4096 .bf16) :
    out0_2 x0 = View.canon [⟨r0_32, trunci 8 (fptosi 32 (total x0 32) : IVec S128x128 32) natLt_8_32⟩] := by
  chain_rfl

end Cert.Proof.Tile

end
-- ==== Proof.Scalar.lean ====
/- The numbers both programs take: powers of two from their exponent fields, the search for an exponent
   field, and the shared exponent of a group as a logarithm. -/
module

public import Idealize.ShloMosaic.PureOps.Ideal
public import Idealize.ShloMosaic.Lib.Pointwise

@[expose] public section

set_option maxRecDepth 16384

noncomputable section

namespace Cert.Proof

open Idealize.ShloMosaic

theorem ofBits_f32 (b : BitVec 32) : Ideal.ofBits .f32 b = Ideal.ieee 8 23 b := rfl

/-- A positive normal single-precision pattern. -/
theorem f32_pos (b : BitVec 32) (ex fr : ℕ) (hs : (b.extractLsb' 31 1 == 1#1) = false)
    (he : (b.extractLsb' 23 8).toNat = ex) (hf : (b.extractLsb' 0 23).toNat = fr) (h1 : 0 < ex) (h2 : ex < 255) :
    Ideal.ofBits .f32 b = (((2 ^ 23 + fr : ℕ) * (2 : ℝ) ^ ((ex : ℤ) - 150) : ℝ) : EReal) := by
  rw [ofBits_f32]
  have h3 : ¬ ex = 2 ^ 8 - 1 := by omega
  have h4 : ¬ ex = 0 := by omega
  simp only [Ideal.ieee, Nat.reduceAdd, hs, he, hf, h3, h4, if_false, Bool.false_eq_true]
  rw [EReal.coe_eq_coe_iff, one_mul]
  have : (2 : ℤ) ^ (8 - 1) = 128 := by norm_num
  rw [this, show (ex : ℤ) - (128 - 1) - ((23 : ℕ) : ℤ) = (ex : ℤ) - 150 by push_cast; ring]

/-- The float whose exponent field is the word `w` and whose fraction is zero. -/
def pwr (w : BitVec 32) : EReal := Ideal.ofBits .f32 (IntOp.shli ArithUnit.vector w 23#32)

theorem shifted : ∀ n : Fin 256,
    ((IntOp.shli ArithUnit.vector (BitVec.ofNat 32 n.val) 23#32).extractLsb' 31 1 == 1#1) = false
    ∧ ((IntOp.shli ArithUnit.vector (BitVec.ofNat 32 n.val) 23#32).extractLsb' 23 8).toNat = n.val
    ∧ ((IntOp.shli ArithUnit.vector (BitVec.ofNat 32 n.val) 23#32).extractLsb' 0 23).toNat = 0 := by
  decide +kernel

/-- A field between 1 and 254 is a power of two. -/
theorem pwr_normal (n : ℕ) (h1 : 0 < n) (h2 : n < 255) :
    pwr (BitVec.ofNat 32 n) = (((2 : ℝ) ^ ((n : ℤ) - 127) : ℝ) : EReal) := by
  obtain ⟨hs, he, hf⟩ := shifted ⟨n, by omega⟩
  rw [pwr, f32_pos _ n 0 hs he hf h1 h2, EReal.coe_eq_coe_iff]
  rw [show ((n : ℤ) - 127) = 23 + ((n : ℤ) - 150) by ring, zpow_add₀ (by norm_num)]
  norm_num

/-- The field zero is zero. -/
theorem pwr_zero : pwr 0#32 = 0 := by
  rw [pwr, ofBits_f32]
  have hs : ((IntOp.shli ArithUnit.vector 0#32 23#32).extractLsb' 31 1 == 1#1) = false := by decide
  have he : ((IntOp.shli ArithUnit.vector 0#32 23#32).extractLsb' 23 8).toNat = 0 := by decide
  have hf : ((IntOp.shli ArithUnit.vector 0#32 23#32).extractLsb' 0 23).toNat = 0 := by decide
  simp only [Ideal.ieee, Nat.reduceAdd, hs, he, hf]
  norm_num

/-- One step of the search, on natural numbers. -/
def stepN (t : EReal) (bit f : ℕ) : ℕ := if pwr (BitVec.ofNat 32 (f + bit)) ≤ t then f + bit else f

/-- The search from the highest bit down. -/
def fieldN (t : EReal) : ℕ :=
  stepN t 1 (stepN t 2 (stepN t 4 (stepN t 8 (stepN t 16 (stepN t 32 (stepN t 64 (stepN t 128 0)))))))

/-- What holds between two steps: the field lies in the `w` values from `f` on. -/
def Within (t : EReal) (f w : ℕ) : Prop :=
  pwr (BitVec.ofNat 32 f) ≤ t ∧ f + w ≤ 256 ∧ (f + w ≤ 255 → t < pwr (BitVec.ofNat 32 (f + w)))

theorem within_step {t : EReal} {f : ℕ} (b : ℕ) (h : Within t f (b + b)) : Within t (stepN t b f) b := by
  obtain ⟨h1, h2, h3⟩ := h
  unfold stepN
  split
  · rename_i hc
    exact ⟨hc, by omega, fun h => by rw [show f + b + b = f + (b + b) by omega]; exact h3 (by omega)⟩
  · rename_i hc
    exact ⟨h1, by omega, fun _ => not_le.mp hc⟩

/-- The search finds the field. -/
theorem within_field {t : EReal} (ht : 0 ≤ t) : Within t (fieldN t) 1 := by
  have h0 : Within t 0 (128 + 128) := ⟨by rw [show BitVec.ofNat 32 0 = 0#32 from rfl, pwr_zero]; exact ht, by omega, by omega⟩
  exact within_step 1 (within_step 2 (within_step 4 (within_step 8 (within_step 16 (within_step 32
    (within_step 64 (within_step 128 h0)))))))

/-- The factor `1 / 448` as a single-precision number. -/
def third : ℝ := 9586981 * (2 : ℝ) ^ (-32 : ℤ)

theorem ofBits_third : Ideal.ofBits .f32 0x3B124925#32 = (third : EReal) := by
  rw [f32_pos _ 118 1198373 (by decide) (by decide) (by decide) (by omega) (by omega), EReal.coe_eq_coe_iff]
  unfold third
  norm_num

theorem third_pos : 0 < third := by unfold third; positivity

theorem ofBits_two : Ideal.ofBits .f32 0x40000000#32 = ((2 : ℝ) : EReal) := by
  rw [f32_pos _ 128 0 (by decide) (by decide) (by decide) (by omega) (by omega), EReal.coe_eq_coe_iff]
  norm_num

theorem ofBits_low : Ideal.ofBits .f32 0xC2FC0000#32 = ((-126 : ℝ) : EReal) := by
  rw [ofBits_f32]
  have hs : ((0xC2FC0000#32).extractLsb' 31 1 == 1#1) = true := by decide
  have he : ((0xC2FC0000#32).extractLsb' 23 8).toNat = 133 := by decide
  have hf : ((0xC2FC0000#32).extractLsb' 0 23).toNat = 8126464 := by decide
  simp only [Ideal.ieee, Nat.reduceAdd, hs, he, hf]
  norm_num

/-- The largest finite half-width number. -/
def top : ℝ := 255 * 2 ^ 120

/-- The shared exponent of a group whose largest magnitude is `a`. -/
def expoOf (a : EReal) : ℤ := if a = 0 then 0 else (fieldN (a * (third : EReal)) : ℤ) - 126

/-- The field of a magnitude the inputs can have: its bounds as a real number. -/
theorem field_real (r : ℝ) (h0 : 0 ≤ r) (h1 : r < 2 ^ 120) :
    fieldN (r : EReal) ≤ 246 ∧ (fieldN (r : EReal) ≠ 0 → (2 : ℝ) ^ ((fieldN (r : EReal) : ℤ) - 127) ≤ r)
      ∧ r < (2 : ℝ) ^ ((fieldN (r : EReal) : ℤ) - 126) := by
  obtain ⟨a, b, c⟩ := within_field (t := (r : EReal)) (by exact_mod_cast h0)
  generalize fieldN (r : EReal) = n at a b c
  have hn : n ≤ 246 := by
    by_contra hc
    have hlow : ((2 : ℝ) ^ (120 : ℤ) : ℝ) ≤ r := by
      by_cases h255 : n = 255
      · exfalso
        subst h255
        have : pwr (BitVec.ofNat 32 255) = ⊤ := by
          rw [pwr, ofBits_f32]
          obtain ⟨hs, he, hf⟩ := shifted ⟨255, by omega⟩
          simp only [Ideal.ieee, Nat.reduceAdd, hs, he, hf]
          norm_num
        rw [this] at a
        exact absurd a (not_le.mpr (EReal.coe_lt_top r))
      · rw [pwr_normal n (by omega) (by omega)] at a
        refine le_trans ?_ (EReal.coe_le_coe_iff.mp a)
        exact zpow_le_zpow_right₀ (by norm_num) (by omega)
    have : (2 : ℝ) ^ (120 : ℤ) = 2 ^ 120 := by norm_cast
    linarith
  refine ⟨hn, fun h => ?_, ?_⟩
  · rw [pwr_normal n (by omega) (by omega)] at a
    exact EReal.coe_le_coe_iff.mp a
  · have := c (by omega)
    rw [pwr_normal (n + 1) (by omega) (by omega)] at this
    have := EReal.coe_lt_coe_iff.mp this
    rwa [show (((n + 1 : ℕ) : ℤ) - 127) = (n : ℤ) - 126 by push_cast; ring] at this

/-- The same exponent as the plain mathematics states it. -/
def plainExpo (a : EReal) : BitVec 32 :=
  if a = 0 then 0#32 else
    Ideal.fptosi 32 (max (Ideal.liftRound Int.floor (Ideal.div (Ideal.log (a * (third : EReal))) (Ideal.log ((2 : ℝ) : EReal))) + 1)
      ((-126 : ℝ) : EReal))

theorem fptosi_int (z : ℤ) (h1 : -2000000000 ≤ z) (h2 : z ≤ 2000000000) : Ideal.fptosi 32 (((z : ℝ) : ℝ) : EReal) = BitVec.ofInt 32 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

theorem quotient_real (r : ℝ) (h0 : 0 ≤ r) (h1 : r ≤ top) : 0 ≤ r * third ∧ r * third < 2 ^ 120 := by
  refine ⟨mul_nonneg h0 third_pos.le, ?_⟩
  calc r * third ≤ top * third := mul_le_mul_of_nonneg_right h1 third_pos.le
    _ < 2 ^ 120 := by unfold top third; norm_num

theorem expoOf_bounds (a : EReal) (h0 : 0 ≤ a) (h1 : a ≤ (top : EReal)) : -126 ≤ expoOf a ∧ expoOf a ≤ 120 := by
  lift a to ℝ using ⟨ne_top_of_le_ne_top (EReal.coe_ne_top _) h1, ne_bot_of_le_ne_bot (by simp) h0⟩
  have h0' : 0 ≤ a := by exact_mod_cast h0
  have h1' : a ≤ top := by exact_mod_cast h1
  obtain ⟨q0, q1⟩ := quotient_real a h0' h1'
  obtain ⟨f1, _, _⟩ := field_real _ q0 q1
  unfold expoOf
  split
  · omega
  · rw [← EReal.coe_mul]; omega

/-- The floor of the binary logarithm, one more, kept at -126 or above, is the field less 126. -/
theorem plainExpo_eq (a : EReal) (h0 : 0 ≤ a) (h1 : a ≤ (top : EReal)) : plainExpo a = BitVec.ofInt 32 (expoOf a) := by
  lift a to ℝ using ⟨ne_top_of_le_ne_top (EReal.coe_ne_top _) h1, ne_bot_of_le_ne_bot (by simp) h0⟩
  have h0' : 0 ≤ a := by exact_mod_cast h0
  have h1' : a ≤ top := by exact_mod_cast h1
  obtain ⟨q0, q1⟩ := quotient_real a h0' h1'
  obtain ⟨f1, f2, f3⟩ := field_real _ q0 q1
  unfold plainExpo expoOf
  split
  · rfl
  rename_i hne
  have ha : 0 < a := lt_of_le_of_ne h0' fun h => hne (by rw [← h]; rfl)
  rw [← EReal.coe_mul]
  generalize hf : fieldN ((a * third : ℝ) : EReal) = n at f1 f2 f3 ⊢
  have hq : 0 < a * third := mul_pos ha third_pos
  generalize a * third = q at *
  have hl : ∀ s : ℝ, 0 < s → Ideal.log ((s : ℝ) : EReal) = ((Real.log s : ℝ) : EReal) := fun s hs => by
    show (if s ≤ 0 then _ else _) = _
    rw [if_neg (not_le.mpr hs)]
  have h2p : 0 < Real.log 2 := Real.log_pos (by norm_num)
  have h2 : Real.log 2 ≠ 0 := h2p.ne'
  rw [hl q hq, hl 2 (by norm_num)]
  have hd : Ideal.div ((Real.log q : ℝ) : EReal) ((Real.log 2 : ℝ) : EReal) = ((Real.log q / Real.log 2 : ℝ) : EReal) := by
    unfold Ideal.div
    rw [if_neg (by exact_mod_cast h2), ← EReal.coe_inv, ← EReal.coe_mul, div_eq_mul_inv]
  rw [hd]
  show Ideal.fptosi 32 (max ((((⌊Real.log q / Real.log 2⌋ : ℤ) : ℝ) : EReal) + 1) _) = _
  have hm : max ((((⌊Real.log q / Real.log 2⌋ : ℤ) : ℝ) : EReal) + 1) ((-126 : ℝ) : EReal)
      = ((((max (⌊Real.log q / Real.log 2⌋ + 1) (-126) : ℤ)) : ℝ) : EReal) := by
    rw [show (1 : EReal) = ((1 : ℝ) : EReal) from rfl, ← EReal.coe_add]
    push_cast
    exact (EReal.coe_strictMono.monotone.map_max).symm
  have hv : max (⌊Real.log q / Real.log 2⌋ + 1) (-126) = (n : ℤ) - 126 := by
    have hu : Real.log q / Real.log 2 < (n : ℝ) - 126 := by
      rw [div_lt_iff₀ h2p]
      have := Real.log_lt_log hq f3
      rw [Real.log_zpow] at this
      push_cast at this
      exact this
    have hu' : ⌊Real.log q / Real.log 2⌋ < (n : ℤ) - 126 := Int.floor_lt.mpr (by push_cast at hu ⊢; exact hu)
    by_cases hn : n = 0
    · omega
    · have hlo : ((n : ℤ) - 127 : ℤ) ≤ ⌊Real.log q / Real.log 2⌋ := by
        have := Real.log_le_log (by positivity) (f2 hn)
        rw [Real.log_zpow] at this
        rw [Int.le_floor, le_div_iff₀ h2p]
        exact this
      omega
  rw [hm, hv, fptosi_int _ (by omega) (by omega)]

end Cert.Proof

end
-- ==== Proof.Model.lean ====
/- The values the two programs are compared through: the codes, the scales and the projection of a token,
   stated on the elements of the arrays. -/
module

public import proofs.«01_k».proof.Proof.Scalar

@[expose] public section

set_option maxRecDepth 16384

noncomputable section

namespace Cert.Proof

open Idealize.ShloMosaic

/-- The largest magnitude of a group of thirty-two. -/
def groupMax (v : Fin 32 → EReal) : EReal := (Finset.univ : Finset (Fin 32)).fold max ⊥ fun i => max (v i) (-v i)

/-- A value over the group's power of two, kept within the narrow format's range. -/
def codeOf (v : EReal) (e : ℤ) : EReal :=
  min (Ideal.ofBits .f32 0x43E00000#32) (max (Ideal.ofBits .f32 0xC3E00000#32) (v * (((2 : ℝ) ^ (-e) : ℝ) : EReal)))

/-- The shared exponent of group `g` of the row `u`. -/
def rowExpo (u : Fin 4096 → EReal) (g : Fin 128) : ℤ := expoOf (groupMax fun i => u ⟨g.val * 32 + i.val, by omega⟩)

/-- The group of column `d`. -/
def grp (d : Fin 4096) : Fin 128 := ⟨d.val / 32, by omega⟩

/-- The code of column `d` of the row `u`. -/
def rowCode (u : Fin 4096 → EReal) (d : Fin 4096) : EReal := codeOf (u d) (rowExpo u (grp d))

/-- The stored scale of group `g` of the row `u`. -/
def rowScale (u : Fin 4096 → EReal) (g : Fin 128) : BitVec 8 := BitVec.ofInt 8 (rowExpo u g + 127)

/-- A row times a column of the scaled weights. -/
def rowDot (u : Fin 4096 → EReal) (w : Fin 4096 → EReal) (s : Fin 128 → BitVec 8) : EReal :=
  ∑ d : Fin 4096, rowCode u d * (((2 : ℝ) ^ (rowExpo u (grp d)) : ℝ) : EReal) * (w d * pwr (BitVec.setWidth 32 (s (grp d))))

/-- Every element of a row is finite in the half-width format. -/
def Finite (u : Fin 4096 → EReal) : Prop := ∀ d, max (u d) (-u d) ≤ (top : EReal)

theorem groupMax_nonneg (v : Fin 32 → EReal) : 0 ≤ groupMax v := by
  unfold groupMax
  rw [Finset.le_fold_max]
  right
  refine ⟨0, Finset.mem_univ _, ?_⟩
  rcases le_total 0 (v 0) with h | h
  · exact le_max_of_le_left h
  · exact le_max_of_le_right (by rw [← neg_zero]; exact EReal.neg_le_neg_iff.mpr h)

theorem groupMax_le (v : Fin 32 → EReal) (h : ∀ i, max (v i) (-v i) ≤ (top : EReal)) : groupMax v ≤ (top : EReal) := by
  unfold groupMax
  rw [Finset.fold_max_le]
  exact ⟨bot_le, fun i _ => h i⟩

theorem rowExpo_bounds {u : Fin 4096 → EReal} (hu : Finite u) (g : Fin 128) : -126 ≤ rowExpo u g ∧ rowExpo u g ≤ 120 :=
  expoOf_bounds _ (groupMax_nonneg _) (groupMax_le _ fun _ => hu _)

/-! ## Words that hold exponents -/

theorem exists_nat {e : ℤ} (h1 : -126 ≤ e) (h2 : e ≤ 120) : ∃ n : Fin 247, e = (n.val : ℤ) - 126 :=
  ⟨⟨(e + 126).toNat, by omega⟩, by simp only []; omega⟩

theorem words : ∀ n : Fin 247,
    IntOp.subi 127#32 (BitVec.ofInt 32 ((n.val : ℤ) - 126)) = BitVec.ofNat 32 (253 - n.val)
    ∧ IntOp.addi 127#32 (BitVec.ofInt 32 ((n.val : ℤ) - 126)) = BitVec.ofNat 32 (n.val + 1)
    ∧ IntOp.addi (BitVec.ofInt 32 ((n.val : ℤ) - 126)) 127#32 = BitVec.ofNat 32 (n.val + 1)
    ∧ (IntOp.subi 0#32 (BitVec.ofInt 32 ((n.val : ℤ) - 126))).toInt = 126 - (n.val : ℤ)
    ∧ BitVec.setWidth 8 (BitVec.ofNat 32 (n.val + 1)) = BitVec.ofInt 8 ((n.val : ℤ) - 126 + 127)
    ∧ (IntOp.subi (BitVec.setWidth 32 (BitVec.ofInt 8 ((n.val : ℤ) - 126 + 127))) 127#32).toInt = (n.val : ℤ) - 126
    ∧ (BitVec.ofNat 32 (n.val + 1)).toInt = (n.val : ℤ) + 1
    ∧ IntOp.subi (BitVec.ofNat 32 n.val) 126#32 = BitVec.ofInt 32 ((n.val : ℤ) - 126) := by
  decide +kernel

/-- Two to a whole power, as the extended reals have it. -/
theorem exp2_int (z : ℤ) : Ideal.exp2 (((z : ℤ) : ℝ) : EReal) = (((2 : ℝ) ^ z : ℝ) : EReal) := by
  show ((Real.rpow 2 (z : ℝ) : ℝ) : EReal) = _
  rw [EReal.coe_eq_coe_iff]
  exact Real.rpow_intCast 2 z

section
variable {e : ℤ} (h1 : -126 ≤ e) (h2 : e ≤ 120)
include h1 h2

theorem pwr_down : pwr (IntOp.subi 127#32 (BitVec.ofInt 32 e)) = (((2 : ℝ) ^ (-e) : ℝ) : EReal) := by
  obtain ⟨n, rfl⟩ := exists_nat h1 h2
  rw [(words n).1, pwr_normal _ (by omega) (by omega), EReal.coe_eq_coe_iff]
  congr 1
  have := n.isLt
  omega

theorem pwr_up : pwr (IntOp.addi 127#32 (BitVec.ofInt 32 e)) = (((2 : ℝ) ^ e : ℝ) : EReal) := by
  obtain ⟨n, rfl⟩ := exists_nat h1 h2
  rw [(words n).2.1, pwr_normal _ (by omega) (by omega), EReal.coe_eq_coe_iff]
  congr 1
  push_cast
  ring

theorem exp2_down : Ideal.exp2 ((((IntOp.subi 0#32 (BitVec.ofInt 32 e)).toInt : ℤ) : ℝ) : EReal) = (((2 : ℝ) ^ (-e) : ℝ) : EReal) := by
  obtain ⟨n, rfl⟩ := exists_nat h1 h2
  rw [(words n).2.2.2.1, exp2_int]
  congr 3
  ring

theorem scale_word : BitVec.setWidth 8 (IntOp.addi (BitVec.ofInt 32 e) 127#32) = BitVec.ofInt 8 (e + 127) := by
  obtain ⟨n, rfl⟩ := exists_nat h1 h2
  rw [(words n).2.2.1, (words n).2.2.2.2.1]

theorem exp2_scale : Ideal.exp2 ((((IntOp.subi (BitVec.setWidth 32 (BitVec.ofInt 8 (e + 127))) 127#32).toInt : ℤ) : ℝ) : EReal)
    = (((2 : ℝ) ^ e : ℝ) : EReal) := by
  obtain ⟨n, rfl⟩ := exists_nat h1 h2
  rw [(words n).2.2.2.2.2.1, exp2_int]

theorem stored_int : (IntOp.addi (BitVec.ofInt 32 e) 127#32).toInt = e + 127 := by
  obtain ⟨n, rfl⟩ := exists_nat h1 h2
  rw [(words n).2.2.1, (words n).2.2.2.2.2.2.1]
  ring

end

/-! ## The weights' scales -/

theorem weight_words : ∀ s : BitVec 8, 1#8 ≤ s → s ≤ 254#8 →
    (IntOp.subi (BitVec.setWidth 32 s) 127#32).toInt = (s.toNat : ℤ) - 127 ∧ 0 < s.toNat ∧ s.toNat < 255
      ∧ BitVec.setWidth 32 s = BitVec.ofNat 32 s.toNat := by
  decide +kernel

/-- A stored weight scale is a power of two, by its field as by its exponent. -/
theorem weight_scale (s : BitVec 8) (h1 : 1#8 ≤ s) (h2 : s ≤ 254#8) :
    Ideal.exp2 ((((IntOp.subi (BitVec.setWidth 32 s) 127#32).toInt : ℤ) : ℝ) : EReal) = pwr (BitVec.setWidth 32 s)
    ∧ 0 ≤ pwr (BitVec.setWidth 32 s) ∧ pwr (BitVec.setWidth 32 s) ≠ ⊤ := by
  obtain ⟨a, b, c, d⟩ := weight_words s h1 h2
  rw [a, exp2_int, d, pwr_normal _ b c]
  refine ⟨rfl, ?_, EReal.coe_ne_top _⟩
  exact_mod_cast (by positivity : (0 : ℝ) ≤ 2 ^ ((s.toNat : ℤ) - 127))

/-! ## Sums -/

/-- A finite sum times a nonnegative finite number. -/
theorem sum_mul_of_finite {ι : Type*} (s : Finset ι) (f : ι → EReal) (c : EReal) (h0 : 0 ≤ c) (h1 : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 h1, ih]

/-- The columns of a row, group by group. -/
theorem sum_groups (f : Fin 4096 → EReal) : ∑ d : Fin 4096, f d = ∑ g : Fin 128, ∑ i : Fin 32, f ⟨g.val * 32 + i.val, by omega⟩ := by
  rw [← Finset.sum_product']
  refine (Fintype.sum_equiv (finProdFinEquiv (m := 128) (n := 32)) (fun p => f ⟨p.1.val * 32 + p.2.val, by omega⟩) f fun p => ?_).symm
  congr 1
  apply Fin.ext
  show p.1.val * 32 + p.2.val = p.2.val + 32 * p.1.val
  ring

/-- A row's projection as the plain mathematics sums it: group by group, each group's sum scaled once. -/
theorem rowDot_groups {u : Fin 4096 → EReal} (w : Fin 4096 → EReal) (s : Fin 128 → BitVec 8)
    (hs : ∀ g, 1#8 ≤ s g ∧ s g ≤ 254#8) :
    ∑ g : Fin 128, (∑ i : Fin 32, rowCode u ⟨g.val * 32 + i.val, by omega⟩ * w ⟨g.val * 32 + i.val, by omega⟩)
        * (((2 : ℝ) ^ (rowExpo u g) : ℝ) : EReal) * pwr (BitVec.setWidth 32 (s g))
      = rowDot u w s := by
  unfold rowDot
  rw [sum_groups]
  refine Finset.sum_congr rfl fun g _ => ?_
  obtain ⟨_, p0, p1⟩ := weight_scale (s g) (hs g).1 (hs g).2
  rw [sum_mul_of_finite _ _ _ (by exact_mod_cast (by positivity : (0 : ℝ) ≤ 2 ^ (rowExpo u g))) (EReal.coe_ne_top _),
    sum_mul_of_finite _ _ _ p0 p1]
  refine Finset.sum_congr rfl fun i _ => ?_
  have hg : grp ⟨g.val * 32 + i.val, by omega⟩ = g := Fin.ext (by show (g.val * 32 + i.val) / 32 = g.val; omega)
  rw [hg]
  ac_rfl

end Cert.Proof

end
-- ==== Proof.TilePoint.lean ====
/- A tile of the quantising kernel, element by element: the exchanges between lanes leave every lane the
   largest magnitude of its group of thirty-two, the search finds the exponent, and the codes, the values and
   the scales are those of the row the tile lies in. -/
module

public import proofs.«01_k».proof.Proof.Tile
public import proofs.«01_k».proof.Proof.Model
public import Idealize.ShloMosaic.Lib.Pipeline.ValueKit

@[expose] public section

set_option maxRecDepth 16384

noncomputable section

namespace Cert.Proof.Tile

open Idealize.ShloMosaic Idealize.ShloMosaic.TcCoe Idealize.ShloMosaic.Tactic Idealize.SL.Sem
open Cert.KernelIdeal Cert.KernelIdeal.Gen

/-! ## The exchanges between lanes -/

/-- The largest value among the lanes that share lane `l`'s group of `s`. -/
def among (s : ℕ) (f : Fin 128 → EReal) (l : Fin 128) : EReal :=
  (Finset.univ.filter fun k : Fin 128 => k.val / s = l.val / s).sup f

theorem among_one (f : Fin 128 → EReal) (l : Fin 128) : among 1 f l = f l := by
  unfold among
  have : (Finset.univ.filter fun k : Fin 128 => k.val / 1 = l.val / 1) = {l} := by
    ext k
    simp [Fin.ext_iff]
  rw [this, Finset.sup_singleton]

/-- Two neighbouring groups of `s` make one of `2 s`. -/
theorem among_double (s : ℕ) (f : Fin 128 → EReal) (l p : Fin 128) (h1 : p.val / s / 2 = l.val / s / 2) (h2 : p.val / s ≠ l.val / s) :
    max (among s f l) (among s f p) = among (s * 2) f l := by
  unfold among
  rw [← Finset.sup_union]
  congr 1
  ext k
  simp only [Finset.mem_union, Finset.mem_filter, Finset.mem_univ, true_and]
  rw [← Nat.div_div_eq_div_mul, ← Nat.div_div_eq_div_mul]
  omega

/-- The lane an exchange over `shift` pairs lane `l` with. -/
def partner (shift back : BitVec 32) (l : Fin 128) : Fin 128 :=
  if IntOp.andi (BitVec.ofNat 32 l.val) shift = 0#32 then ⟨(l.val + 128 - back.toNat % 128) % 128, by omega⟩
  else ⟨(l.val + 128 - shift.toNat % 128) % 128, by omega⟩

theorem meet_at (shift back : BitVec 32) (a : FVec Ideal S128x128 .f32) (r l : Fin 128) :
    (meet shift back a (ix2 r l) : EReal) = max (a (ix2 r l) : EReal) (a (ix2 r (partner shift back l))) := by
  pointwise [meet, swap, lane]
  congr 1
  unfold partner
  by_cases h : IntOp.andi (BitVec.ofNat 32 l.val) shift = 0#32
  · rw [if_pos h, h]
    rfl
  · rw [if_neg h]
    have : IntOp.cmpi CmpIPredicate.eq (IntOp.andi (BitVec.ofNat 32 l.val) shift) 0#32 = 0#1 := by
      show BitVec.ofBool (_ == _) = 0#1
      rw [beq_eq_false_iff_ne.mpr h]
      rfl
    rw [this]
    rfl

/-- One exchange doubles the groups, when its partners are the neighbouring groups'. -/
theorem meet_among {s : ℕ} {shift back : BitVec 32}
    (hp : ∀ l : Fin 128, (partner shift back l).val / s / 2 = l.val / s / 2 ∧ (partner shift back l).val / s ≠ l.val / s)
    {a : FVec Ideal S128x128 .f32} {f : Fin 128 → EReal} {r : Fin 128} (ha : ∀ l, (a (ix2 r l) : EReal) = among s f l) (l : Fin 128) :
    (meet shift back a (ix2 r l) : EReal) = among (s * 2) f l := by
  rw [meet_at, ha, ha, among_double s f l _ (hp l).1 (hp l).2]

theorem absf_at (x : Vec Ideal S128x128 .bf16) (r l : Fin 128) :
    (absf (wide x) (ix2 r l) : EReal) = max (x (ix2 r l) : EReal) (-(x (ix2 r l) : EReal)) := by
  pointwise [wide]
  rfl

/-- After the five exchanges every lane holds the largest magnitude of its group of thirty-two. -/
theorem amax_at (x : Vec Ideal S128x128 .bf16) (r l : Fin 128) :
    (amax x (ix2 r l) : EReal) = among 32 (fun k => max (x (ix2 r k) : EReal) (-(x (ix2 r k) : EReal))) l :=
  meet_among (s := 16) (by decide +kernel) (meet_among (s := 8) (by decide +kernel) (meet_among (s := 4) (by decide +kernel)
    (meet_among (s := 2) (by decide +kernel) (meet_among (s := 1) (by decide +kernel)
      fun l => (absf_at x r l).trans (among_one (fun k => max (x (ix2 r k) : EReal) (-(x (ix2 r k) : EReal))) l).symm)))) l

/-- A group of thirty-two lanes, counted within the group. -/
theorem among_group (v : Fin 128 → EReal) (l : Fin 128) :
    among 32 (fun k => max (v k) (-v k)) l = groupMax fun i => v ⟨l.val / 32 * 32 + i.val, by omega⟩ := by
  unfold among groupMax
  apply le_antisymm
  · refine Finset.sup_le fun k hk => ?_
    have hk' : k.val / 32 = l.val / 32 := (Finset.mem_filter.mp hk).2
    rw [Finset.le_fold_max]
    right
    refine ⟨⟨k.val % 32, by omega⟩, Finset.mem_univ _, le_of_eq ?_⟩
    have : (⟨l.val / 32 * 32 + k.val % 32, by omega⟩ : Fin 128) = k := Fin.ext (by show l.val / 32 * 32 + k.val % 32 = k.val; omega)
    show max (v k) (-v k) = max (v _) (-v _)
    rw [this]
  · rw [Finset.fold_max_le]
    refine ⟨bot_le, fun i _ => ?_⟩
    exact Finset.le_sup (f := fun k : Fin 128 => max (v k) (-v k))
      (Finset.mem_filter.mpr ⟨Finset.mem_univ _, by show (l.val / 32 * 32 + i.val) / 32 = l.val / 32; omega⟩)

/-! ## The exponents -/

theorem step_at (a : FVec Ideal S128x128 .f32) (b n : ℕ) (f : IVec S128x128 32) (r l : Fin 128) (h : f (ix2 r l) = BitVec.ofNat 32 n) :
    step a (BitVec.ofNat 32 b) f (ix2 r l) = BitVec.ofNat 32 (stepN (a (ix2 r l)) b n) := by
  pointwise [step, pow]
  have hadd : IntOp.addi (BitVec.ofNat 32 n) (BitVec.ofNat 32 b) = BitVec.ofNat 32 (n + b) := (BitVec.ofNat_add n b).symm
  rw [h, hadd]
  unfold stepN pwr
  split <;> rfl

theorem field_at (a : FVec Ideal S128x128 .f32) (r l : Fin 128) : field a (ix2 r l) = BitVec.ofNat 32 (fieldN (a (ix2 r l))) :=
  step_at a 1 _ _ r l (step_at a 2 _ _ r l (step_at a 4 _ _ r l (step_at a 8 _ _ r l (step_at a 16 _ _ r l
    (step_at a 32 _ _ r l (step_at a 64 _ _ r l (step_at a 128 0 _ r l rfl)))))))

theorem quot_at (a : FVec Ideal S128x128 .f32) (r l : Fin 128) : (quot a (ix2 r l) : EReal) = (a (ix2 r l) : EReal) * (third : EReal) := by
  pointwise [quot]
  rw [ofBits_third]

theorem expo_at (a : FVec Ideal S128x128 .f32) (r l : Fin 128) (h0 : 0 ≤ (a (ix2 r l) : EReal)) (h1 : (a (ix2 r l) : EReal) ≤ (top : EReal)) :
    expo a (ix2 r l) = BitVec.ofInt 32 (expoOf (a (ix2 r l))) := by
  have e : expo a (ix2 r l) = if (a (ix2 r l) : EReal) = 0 then 0#32 else IntOp.subi (field (quot a) (ix2 r l)) 126#32 := by
    pointwise [expo]
  rw [e, field_at, quot_at]
  obtain ⟨b1, b2⟩ := expoOf_bounds _ h0 h1
  unfold expoOf at b1 b2 ⊢
  split
  · rfl
  · rename_i hz
    rw [if_neg hz] at b1 b2
    exact (words ⟨fieldN ((a (ix2 r l) : EReal) * (third : EReal)), by omega⟩).2.2.2.2.2.2.2

/-! ## A tile of a block -/

/-- Row `r` of a block of 128 rows. -/
def row (x0 : Vec Ideal S128x4096 .bf16) (r : Fin 128) : Fin 4096 → EReal := fun d => x0 (ix2 r d)

/-- The column of lane `l` of tile `j`. -/
def col (j : Fin 32) (l : Fin 128) : Fin 4096 := ⟨128 * j.val + l.val, by omega⟩

theorem load_at (x0 : Vec Ideal S128x4096 .bf16) (j : Fin 32) (r l : Fin 128) : (load x0 j (ix2 r l) : EReal) = row x0 r (col j l) := by
  show x0 _ = x0 _
  congr 1
  funext a
  apply Fin.ext
  fin_cases a
  · show 0 + 1 * r.val = r.val
    omega
  · show 128 * j.val + 1 * l.val = 128 * j.val + l.val
    omega

theorem amax_load (x0 : Vec Ideal S128x4096 .bf16) (j : Fin 32) (r l : Fin 128) :
    (amax (load x0 j) (ix2 r l) : EReal) = groupMax fun i => row x0 r ⟨(grp (col j l)).val * 32 + i.val, by omega⟩ := by
  rw [amax_at]
  refine (among_group (fun k => (load x0 j (ix2 r k) : EReal)) l).trans ?_
  congr 1
  funext i
  rw [load_at]
  congr 1
  apply Fin.ext
  show 128 * j.val + (l.val / 32 * 32 + i.val) = (128 * j.val + l.val) / 32 * 32 + i.val
  omega

section
variable {x0 : Vec Ideal S128x4096 .bf16} (hx : ∀ r, Finite (row x0 r))
include hx

/-- The exponent every lane of a tile works with: its group's. -/
theorem expo_load (j : Fin 32) (r l : Fin 128) :
    expo (amax (load x0 j)) (ix2 r l) = BitVec.ofInt 32 (rowExpo (row x0 r) (grp (col j l))) := by
  rw [expo_at _ _ _ (by rw [amax_load]; exact groupMax_nonneg _) (by rw [amax_load]; exact groupMax_le _ fun _ => hx r _), amax_load]
  rfl

/-- A tile's codes. -/
theorem codes_load (j : Fin 32) (r l : Fin 128) : (codes (load x0 j) (ix2 r l) : EReal) = rowCode (row x0 r) (col j l) := by
  obtain ⟨h1, h2⟩ := rowExpo_bounds (hx r) (grp (col j l))
  unfold rowCode codeOf
  rw [← pwr_down h1 h2, ← expo_load hx, ← load_at]
  pointwise [codes, pow, wide]
  rfl

/-- A tile's values: the codes times their groups' powers of two. -/
theorem back_load (j : Fin 32) (r l : Fin 128) : (back (load x0 j) (ix2 r l) : EReal)
    = rowCode (row x0 r) (col j l) * (((2 : ℝ) ^ (rowExpo (row x0 r) (grp (col j l))) : ℝ) : EReal) := by
  obtain ⟨h1, h2⟩ := rowExpo_bounds (hx r) (grp (col j l))
  rw [← codes_load hx, ← pwr_up h1 h2, ← expo_load hx]
  pointwise [back, pow]
  rfl

end

/-! ## The scales -/

/-- Column `c` takes lane `32 (c - 4 n)` of tile `n`: one of its own lanes when `c` is one of the tile's four columns. -/
theorem picked : ∀ (n : Fin 32) (c : Fin 128),
    (c.val / 4 = n.val → (IntOp.muli (IntOp.subi (BitVec.ofNat 32 c.val) (BitVec.ofNat 32 (4 * n.val))) 32#32).toNat = 32 * (c.val % 4))
    ∧ (c.val / 4 ≠ n.val → 128 ≤ (IntOp.muli (IntOp.subi (BitVec.ofNat 32 c.val) (BitVec.ofNat 32 (4 * n.val))) 32#32).toNat) := by
  decide +kernel

/-- The number an equality test becomes. -/
theorem test_value (a b : BitVec 32) : (FloatOps.sitofp (F := Ideal) FTy.f32 (BitVec.setWidth 32 (IntOp.cmpi CmpIPredicate.eq a b)) : EReal)
    = if a = b then 1 else 0 := by
  by_cases h : a = b
  · rw [if_pos h]
    have : IntOp.cmpi CmpIPredicate.eq a b = 1#1 := by
      show BitVec.ofBool (_ == _) = 1#1
      rw [beq_iff_eq.mpr h]; rfl
    rw [this]
    show ((((BitVec.setWidth 32 1#1).toInt : ℤ) : ℝ) : EReal) = 1
    rw [show (BitVec.setWidth 32 1#1).toInt = 1 by decide]
    norm_num
  · rw [if_neg h]
    have : IntOp.cmpi CmpIPredicate.eq a b = 0#1 := by
      show BitVec.ofBool (_ == _) = 0#1
      rw [beq_eq_false_iff_ne.mpr h]; rfl
    rw [this]
    show ((((BitVec.setWidth 32 0#1).toInt : ℤ) : ℝ) : EReal) = 0
    rw [show (BitVec.setWidth 32 0#1).toInt = 0 by decide]
    norm_num

theorem spread_at (first : BitVec 32) (x : Vec Ideal S128x128 .bf16) (r c : Fin 128) : (spread first x (ix2 r c) : EReal)
    = ∑ l : Fin 128, (FloatOps.sitofp (F := Ideal) FTy.bf16 (IntOp.addi (expo (amax x) (ix2 r l)) 127#32) : EReal)
        * FloatOps.sitofp (F := Ideal) FTy.f32 (BitVec.setWidth 32 (IntOp.cmpi CmpIPredicate.eq (BitVec.ofNat 32 l.val)
            (IntOp.muli (IntOp.subi (BitVec.ofNat 32 c.val) first) 32#32))) := by
  pointwise [spread, pick]

section
variable {x0 : Vec Ideal S128x4096 .bf16} (hx : ∀ r, Finite (row x0 r))
include hx

/-- What a tile adds to a column of the scales' block: the stored scale of its own four columns, nothing to the others. -/
theorem spread_load (n : Fin 32) (r c : Fin 128) : (spread (BitVec.ofNat 32 (4 * n.val)) (load x0 n) (ix2 r c) : EReal)
    = if c.val / 4 = n.val then (((rowExpo (row x0 r) c + 127 : ℤ) : ℝ) : EReal) else 0 := by
  rw [spread_at]
  simp only [test_value]
  obtain ⟨h1, h2⟩ := picked n c
  generalize IntOp.muli (IntOp.subi (BitVec.ofNat 32 c.val) (BitVec.ofNat 32 (4 * n.val))) 32#32 = w at h1 h2
  have hw : ∀ l : Fin 128, (BitVec.ofNat 32 l.val = w) ↔ l.val = w.toNat := fun l => by
    rw [← BitVec.toNat_inj, BitVec.toNat_ofNat, Nat.mod_eq_of_lt (by omega)]
  simp only [hw]
  split
  · rename_i h
    have hl := h1 h
    rw [Finset.sum_eq_single ⟨32 * (c.val % 4), by omega⟩]
    · rw [if_pos (by show 32 * (c.val % 4) = w.toNat; omega), mul_one, expo_load hx]
      have hg : grp (col n ⟨32 * (c.val % 4), by omega⟩) = c :=
        Fin.ext (by show (128 * n.val + 32 * (c.val % 4)) / 32 = c.val; omega)
      rw [hg]
      obtain ⟨b1, b2⟩ := rowExpo_bounds (hx r) c
      show ((((IntOp.addi (BitVec.ofInt 32 (rowExpo (row x0 r) c)) 127#32).toInt : ℤ) : ℝ) : EReal) = _
      rw [stored_int b1 b2]
    · intro l _ hne
      rw [if_neg, mul_zero]
      intro he
      exact hne (Fin.ext (by show l.val = 32 * (c.val % 4); omega))
    · intro h
      exact absurd (Finset.mem_univ _) h
  · rename_i h
    have hl := h2 h
    refine Finset.sum_eq_zero fun l _ => ?_
    rw [if_neg (by omega), mul_zero]

theorem total_at (n : ℕ) (hn : n ≤ 32) (r c : Fin 128) : (total x0 n (ix2 r c) : EReal)
    = if c.val / 4 < n then (((rowExpo (row x0 r) c + 127 : ℤ) : ℝ) : EReal) else 0 := by
  induction n with
  | zero =>
    rw [if_neg (by omega)]
    show Ideal.ofBits .f32 0x00000000#32 = 0
    exact pwr_zero
  | succ n ih =>
    have e : (total x0 (n + 1) (ix2 r c) : EReal)
        = (total x0 n (ix2 r c) : EReal) + (spread (BitVec.ofNat 32 (4 * n)) (load x0 (Fin.ofNat 32 n)) (ix2 r c) : EReal) := rfl
    have hf : Fin.ofNat 32 n = ⟨n, by omega⟩ := Fin.ext (Nat.mod_eq_of_lt (by omega))
    rw [e, ih (by omega), hf]
    have hs := spread_load hx ⟨n, by omega⟩ r c
    rw [show ((⟨n, by omega⟩ : Fin 32).val) = n from rfl] at hs
    rw [hs]
    split
    · rw [if_neg (by omega), if_pos (by omega), add_zero]
    · split
      · rw [if_pos (by omega), zero_add]
      · rw [if_neg (by omega), zero_add]

/-- The scales' block. -/
theorem scales_load (r c : Fin 128) :
    (trunci 8 (fptosi 32 (total x0 32) : IVec S128x128 32) natLt_8_32 : IVec S128x128 8) (ix2 r c) = rowScale (row x0 r) c := by
  obtain ⟨b1, b2⟩ := rowExpo_bounds (hx r) c
  have e : (trunci 8 (fptosi 32 (total x0 32) : IVec S128x128 32) natLt_8_32 : IVec S128x128 8) (ix2 r c)
      = BitVec.setWidth 8 (Ideal.fptosi 32 (total x0 32 (ix2 r c) : EReal)) := by
    pointwise []
    rfl
  rw [e, total_at hx 32 le_rfl, if_pos (by omega), fptosi_int _ (by omega) (by omega)]
  unfold rowScale
  rw [← scale_word b1 b2]
  obtain ⟨k, hk⟩ := exists_nat b1 b2
  rw [hk, (words k).2.2.1]
  congr 1
  rw [show ((k.val : ℤ) - 126 + 127) = ((k.val + 1 : ℕ) : ℤ) by push_cast; ring]
  exact BitVec.ofInt_natCast 32 (k.val + 1)

end

end Cert.Proof.Tile

end
-- ==== Proof.Blocks.lean ====
/- What one grid point of either call leaves in its result blocks, element by element. -/
module

public import proofs.«01_k».proof.Proof.TilePoint

@[expose] public section

set_option maxRecDepth 16384

noncomputable section

namespace Cert.Proof.Blocks

open Idealize.ShloMosaic Idealize.ShloMosaic.TcCoe Idealize.ShloMosaic.Tactic Idealize.SL.Sem
open Cert.KernelIdeal Cert.KernelIdeal.Gen
open Cert.Proof.Tile

/-- The thirty-two tiles of a block make it up: an element's value is its tile's. -/
theorem tiles {e : EltTy} (P : Fin 32 → Vec Ideal S128x128 e) (r : Fin 128) (d : Fin 4096) (v : Elt Ideal e)
    (h : ∀ (j : Fin 32) (l : Fin 128), col j l = d → P j (ix2 r l) = v) :
    (View.canon (List.ofFn fun j : Fin 32 => (⟨rect j.rev, P j.rev⟩ : View.Piece (Elt Ideal) S128x4096 e)) : Vec Ideal S128x4096 e) (ix2 r d) = v := by
  refine View.canon_ofFn_eq_of_forall (S := S128x4096) (fun j : Fin 32 => rect j.rev) (fun j => P j.rev) (ix2 r d) v ?_ ?_
  · refine ⟨Fin.rev ⟨d.val / 128, by omega⟩, Rect.mem_set_unit.mpr fun a => ?_⟩
    rw [Fin.rev_rev]
    fin_cases a
    · show 0 ≤ r.val ∧ r.val < 0 + 128
      omega
    · show 128 * (d.val / 128) ≤ d.val ∧ d.val < 128 * (d.val / 128) + 128
      omega
  · intro j x hx
    have h0 : 0 + 1 * (x 0).val = r.val := congrArg Fin.val (congrFun hx 0)
    have h1 : 128 * j.rev.val + 1 * (x 1).val = d.val := congrArg Fin.val (congrFun hx 1)
    have hx' : x = ix2 r (x 1) := by
      funext a
      apply Fin.ext
      fin_cases a
      · show (x 0).val = r.val
        omega
      · rfl
    rw [hx']
    exact h j.rev (x 1) (Fin.ext (by show 128 * j.rev.val + (x 1).val = d.val; omega))

section
variable {x0 : Vec Ideal S128x4096 .bf16} (hx : ∀ r, Finite (row x0 r))
include hx

/-- The block of codes. -/
theorem codes_block (r : Fin 128) (d : Fin 4096) : (out0_1 x0 (ix2 r d) : EReal) = rowCode (row x0 r) d := by
  refine (congrFun (out1 x0) (ix2 r d)).trans ?_
  exact tiles (e := .fp8e4m3) (fun j => codes (load x0 j)) r d (rowCode (row x0 r) d) fun j l hl => by rw [← hl]; exact codes_load hx j r l

/-- The block of values. -/
theorem back_block (r : Fin 128) (d : Fin 4096) : (out0_3 x0 (ix2 r d) : EReal)
    = rowCode (row x0 r) d * (((2 : ℝ) ^ (rowExpo (row x0 r) (grp d)) : ℝ) : EReal) := by
  refine (congrFun (out3 x0) (ix2 r d)).trans ?_
  exact tiles (e := .bf16) (fun j => back (load x0 j)) r d (rowCode (row x0 r) d * (((2 : ℝ) ^ (rowExpo (row x0 r) (grp d)) : ℝ) : EReal)) fun j l hl => by rw [← hl]; exact back_load hx j r l

/-- The block of scales. -/
theorem scales_block (r : Fin 128) (g : Fin 128) : out0_2 x0 (ix2 r g) = rowScale (row x0 r) g := by
  rw [out2]
  refine Eq.trans ?_ (scales_load hx r g)
  generalize (trunci 8 (fptosi 32 (total x0 32) : IVec S128x128 32) natLt_8_32 : IVec S128x128 8) = v
  frame_out

end

/-- The product's block: a row of values times a column of scaled weights, and the residual. -/
theorem product_block (x0 : Vec Ideal S768x4096 .bf16) (x1 : Vec Ideal S4096x512 .fp8e4m3) (x2 : Vec Ideal S128x512 .i8)
    (x3 : Vec Ideal S3x256x512 .bf16) (b : Fin 3) (t : Fin 256) (n : Fin 512) :
    (out1_4 x0 x1 x2 x3 (ix3 b t n) : EReal)
      = (∑ d : Fin 4096, (x0 (ix2 ⟨b.val * 256 + t.val, by omega⟩ d) : EReal) * ((x1 (ix2 d n) : EReal) * pwr (BitVec.setWidth 32 (x2 (ix2 (grp d) n)))))
        + x3 (ix3 b t n) := by
  have e : out1_4 x0 x1 x2 x3 = k1_pay1 x2 x1 x0 x3 := by
    unfold out1_4
    frame_out
  rw [e]
  pointwise [k1_pay1, grp]
  rfl

end Cert.Proof.Blocks

end
-- ==== Proof.Arrays.lean ====
/- What the two calls leave in their result arrays, from the arrays they find. -/
module

public import proofs.«01_k».proof.Proof.Blocks

@[expose] public section

set_option maxRecDepth 16384

noncomputable section

namespace Cert.Proof.Arrays

open Idealize.ShloMosaic Idealize.ShloMosaic.TcCoe Idealize.ShloMosaic.Tactic Idealize.SL.Sem
open Cert.KernelIdeal Cert.KernelIdeal.Gen

/-- Token `r` of the flattened token array. -/
def token (x : Vec Ideal S768x4096 .bf16) (r : Fin 768) : Fin 4096 → EReal := fun d => x (ix2 r d)

/-- The codes of all tokens. -/
def codesOf (x : Vec Ideal S768x4096 .bf16) : Vec Ideal S768x4096 .fp8e4m3 := fun y => rowCode (token x (y 0)) (y 1)

/-- The scales of all tokens. -/
def scalesOf (x : Vec Ideal S768x4096 .bf16) : Vec Ideal S768x128 .i8 := fun y => rowScale (token x (y 0)) (y 1)

/-- The values of all tokens' codes. -/
def valuesOf (x : Vec Ideal S768x4096 .bf16) : Vec Ideal S768x4096 .bf16 := fun y =>
  rowCode (token x (y 0)) (y 1) * (((2 : ℝ) ^ (rowExpo (token x (y 0)) (grp (y 1))) : ℝ) : EReal)

/-- Values times scaled weights, and the residual. -/
def productOf (v : Vec Ideal S768x4096 .bf16) (w : Vec Ideal S4096x28672 .fp8e4m3) (s : Vec Ideal S128x28672 .i8)
    (res : Vec Ideal S3x256x28672 .bf16) : Vec Ideal S3x256x28672 .bf16 := fun y =>
  ((∑ d : Fin 4096, (v (ix2 ⟨(y 0).val * 256 + (y 1).val, by have h0 : (y 0).val < 3 := (y 0).isLt; have h1 : (y 1).val < 256 := (y 1).isLt; show _ < 768; omega⟩ d) : EReal)
      * ((w (ix2 d (y 2)) : EReal) * pwr (BitVec.setWidth 32 (s (ix2 (grp d) (y 2)))))) + res y : EReal)

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

theorem idx1 : ∀ t : Fin cfg1.N, win1_0.index t = ![0, 0] ∧ win1_1.index t = ![0, t.val] ∧ win1_2.index t = ![0, t.val]
    ∧ win1_3.index t = ![0, 0, t.val] ∧ win1_4.index t = ![0, 0, t.val] :=
  (by decide +kernel : ∀ t : Fin grid1.N, _)

theorem lt0 (t : Fin cfg0.N) : t.val < 6 := t.isLt

theorem lt1 (t : Fin cfg1.N) : t.val < 56 := t.isLt

/-- A row of the block at point `t` is a token. -/
theorem block_row (c : Dev nD) (t : Fin cfg0.N) (r : Fin 128) :
    Tile.row (iblk0 V c 0 t) r = token (V c main_v0) ⟨t.val * 128 + r.val, by have := lt0 t; omega⟩ := by
  funext d
  unfold Tile.row token
  blk_ext [iblk0, idx0 t]

section
variable (c : Dev nD) (hx : ∀ r, Finite (token (V c main_v0) r))
include hx

theorem block_finite (t : Fin cfg0.N) (r : Fin 128) : Finite (Tile.row (iblk0 V c 0 t) r) := by
  rw [block_row]
  exact hx _

/-- The codes' array. -/
theorem codes_array : (dat0 V c).arrAt 1 cfg0.N = codesOf (V c main_v0) := by
  refine (dat0 V c).arrAt_eq_of_covers 1 _ (by decide +kernel) fun t _ y => ?_
  blk_simp
  rw [after0_1]
  obtain ⟨r, d, rfl⟩ : ∃ (r : Fin 128) (d : Fin 4096), y = ix2 r d := ⟨y 0, y 1, by funext a; fin_cases a <;> rfl⟩
  refine (Blocks.codes_block (block_finite V c hx t) r d).trans ?_
  rw [block_row]
  have e : ((win0_1.blk t).view.emb (ix2 r d) : S768x4096.Idx) = ix2 ⟨t.val * 128 + r.val, by have := lt0 t; omega⟩ d := by
    blk_ext [idx0 t]
  exact (congrArg (codesOf (V c main_v0)) e).symm

/-- The scales' array. -/
theorem scales_array : (dat0 V c).arrAt 2 cfg0.N = scalesOf (V c main_v0) := by
  refine (dat0 V c).arrAt_eq_of_covers 2 _ (by decide +kernel) fun t _ y => ?_
  blk_simp
  rw [after0_2]
  obtain ⟨r, d, rfl⟩ : ∃ (r : Fin 128) (d : Fin 128), y = ix2 r d := ⟨y 0, y 1, by funext a; fin_cases a <;> rfl⟩
  refine (Blocks.scales_block (block_finite V c hx t) r d).trans ?_
  rw [block_row]
  have e : ((win0_2.blk t).view.emb (ix2 r d) : S768x128.Idx) = ix2 ⟨t.val * 128 + r.val, by have := lt0 t; omega⟩ d := by
    blk_ext [idx0 t]
  exact (congrArg (scalesOf (V c main_v0)) e).symm

/-- The values' array. -/
theorem values_array : (dat0 V c).arrAt 3 cfg0.N = valuesOf (V c main_v0) := by
  refine (dat0 V c).arrAt_eq_of_covers 3 _ (by decide +kernel) fun t _ y => ?_
  blk_simp
  rw [after0_3]
  obtain ⟨r, d, rfl⟩ : ∃ (r : Fin 128) (d : Fin 4096), y = ix2 r d := ⟨y 0, y 1, by funext a; fin_cases a <;> rfl⟩
  refine (Blocks.back_block (block_finite V c hx t) r d).trans ?_
  rw [block_row]
  have e : ((win0_3.blk t).view.emb (ix2 r d) : S768x4096.Idx) = ix2 ⟨t.val * 128 + r.val, by have := lt0 t; omega⟩ d := by
    blk_ext [idx0 t]
  exact (congrArg (valuesOf (V c main_v0)) e).symm

end

/-- The product's array. -/
theorem product_array (c : Dev nD) : (dat1 V c).arrAt 4 cfg1.N = productOf (V c main_v1_2) (V c main_arg1) (V c main_arg2) (V c main_arg3) := by
  refine (dat1 V c).arrAt_eq_of_covers 4 _ (by decide +kernel) fun t _ y => ?_
  blk_simp
  rw [after1_4]
  obtain ⟨b, u, n, rfl⟩ : ∃ (b : Fin 3) (u : Fin 256) (n : Fin 512), y = ix3 b u n := ⟨y 0, y 1, y 2, by funext a; fin_cases a <;> rfl⟩
  refine (Blocks.product_block _ _ _ _ b u n).trans ?_
  unfold productOf
  blk_point [iblk1, idx1 t]

end Cert.Proof.Arrays

end
-- ==== Proof.KernelRun.lean ====
/- The kernel's run: its three result arrays, element by element, from the argument arrays. -/
module

public import proofs.«01_k».proof.Proof.Arrays

@[expose] public section

set_option maxRecDepth 16384

noncomputable section

namespace Cert.Proof.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Cert.Proof.Arrays hiding token
open Idealize.ShloMosaic.Rounds

/-- Token `t` of batch `b`. -/
def row (x : Vec Ideal S3x256x4096 .bf16) (b : Fin 3) (t : Fin 256) : Fin 4096 → EReal := fun d => x (ix3 b t d)

/-- The tokens, flattened. -/
def flatten (x : Vec Ideal S3x256x4096 .bf16) : Vec Ideal S768x4096 .bf16 := shapeCast S768x4096 x shapeCasts_S3x256x4096_S768x4096

/-- Where token `t` of batch `b` lies among them. -/
def flat (b : Fin 3) (t : Fin 256) : Fin 768 := ⟨b.val * 256 + t.val, by omega⟩

theorem token_flatten (x : Vec Ideal S3x256x4096 .bf16) (b : Fin 3) (t : Fin 256) : Arrays.token (flatten x) (flat b t) = row x b t := by
  funext d
  unfold Arrays.token row flatten flat
  pointwise []

theorem finite_flatten {x : Vec Ideal S3x256x4096 .bf16} (hx : ∀ b t, Finite (row x b t)) (r : Fin 768) : Finite (Arrays.token (flatten x) r) := by
  have h : r = flat ⟨r.val / 256, by omega⟩ ⟨r.val % 256, by omega⟩ := Fin.ext (by show r.val = r.val / 256 * 256 + r.val % 256; omega)
  rw [h, token_flatten]
  exact hx _ _

/-- The codes result. -/
def codesResult (x : Vec Ideal S3x256x4096 .bf16) : Vec Ideal S3x256x4096 .fp8e4m3 := fun y => rowCode (row x (y 0) (y 1)) (y 2)

/-- The scales result. -/
def scalesResult (x : Vec Ideal S3x256x4096 .bf16) : Vec Ideal S3x256x128 .i8 := fun y => rowScale (row x (y 0) (y 1)) (y 2)

/-- The projection. -/
def projection (x : Vec Ideal S3x256x4096 .bf16) (w : Vec Ideal S4096x28672 .fp8e4m3) (s : Vec Ideal S128x28672 .i8)
    (res : Vec Ideal S3x256x28672 .bf16) : Vec Ideal S3x256x28672 .bf16 := fun y =>
  (rowDot (row x (y 0) (y 1)) (fun d => w (ix2 d (y 2))) (fun g => s (ix2 g (y 2))) + res y : EReal)

theorem codes_reshaped (x : Vec Ideal S3x256x4096 .bf16) :
    (shapeCast S3x256x4096 (codesOf (flatten x)) shapeCasts_S768x4096_S3x256x4096 : Vec Ideal S3x256x4096 .fp8e4m3) = codesResult x := by
  funext y
  obtain ⟨b, t, d, rfl⟩ : ∃ (b : Fin 3) (t : Fin 256) (d : Fin 4096), y = ix3 b t d := ⟨y 0, y 1, y 2, by funext a; fin_cases a <;> rfl⟩
  have e : (shapeCast S3x256x4096 (codesOf (flatten x)) shapeCasts_S768x4096_S3x256x4096 : Vec Ideal S3x256x4096 .fp8e4m3) (ix3 b t d)
      = codesOf (flatten x) (ix2 (flat b t) d) := by
    generalize codesOf (flatten x) = v
    pointwise [flat]
  rw [e]
  show rowCode (Arrays.token (flatten x) (flat b t)) d = rowCode (row x b t) d
  rw [token_flatten]

theorem scales_reshaped (x : Vec Ideal S3x256x4096 .bf16) :
    (shapeCast S3x256x128 (scalesOf (flatten x)) shapeCasts_S768x128_S3x256x128 : Vec Ideal S3x256x128 .i8) = scalesResult x := by
  funext y
  obtain ⟨b, t, g, rfl⟩ : ∃ (b : Fin 3) (t : Fin 256) (g : Fin 128), y = ix3 b t g := ⟨y 0, y 1, y 2, by funext a; fin_cases a <;> rfl⟩
  have e : (shapeCast S3x256x128 (scalesOf (flatten x)) shapeCasts_S768x128_S3x256x128 : Vec Ideal S3x256x128 .i8) (ix3 b t g)
      = scalesOf (flatten x) (ix2 (flat b t) g) := by
    generalize scalesOf (flatten x) = v
    pointwise [flat]
  rw [e]
  show rowScale (Arrays.token (flatten x) (flat b t)) g = rowScale (row x b t) g
  rw [token_flatten]

theorem product_values (x : Vec Ideal S3x256x4096 .bf16) (w : Vec Ideal S4096x28672 .fp8e4m3) (s : Vec Ideal S128x28672 .i8)
    (res : Vec Ideal S3x256x28672 .bf16) : productOf (valuesOf (flatten x)) w s res = projection x w s res := by
  funext y
  obtain ⟨b, t, n, rfl⟩ : ∃ (b : Fin 3) (t : Fin 256) (n : Fin 28672), y = ix3 b t n := ⟨y 0, y 1, y 2, by funext a; fin_cases a <;> rfl⟩
  show (∑ d : Fin 4096, rowCode (Arrays.token (flatten x) (flat b t)) d * (((2 : ℝ) ^ (rowExpo (Arrays.token (flatten x) (flat b t)) (grp d)) : ℝ) : EReal)
      * ((w (ix2 d n) : EReal) * pwr (BitVec.setWidth 32 (s (ix2 (grp d) n))))) + (res (ix3 b t n) : EReal) = _
  rw [token_flatten]
  rfl

variable (m : (ℓ : Loc nD τ sig) → Buf (Elt Ideal) ℓ) (ρ : Dev nD → PrngReg)

/-- The first call finds the tokens flattened. -/
theorem entry (c : Dev nD) : V1 m ρ c main_v0 = flatten (m ((c : Thread nD τ).loc main_arg0)) := by
  show StableHlo.after hostOps0 (W0 m ρ c) (Proc.devRef .tc main_v0) = _
  after_results
  try rfl

section
variable (c : Dev nD) (hx : ∀ b t, Finite (row (m ((c : Thread nD τ).loc main_arg0)) b t))
include hx

theorem entry_finite (r : Fin 768) : Finite (Arrays.token (V1 m ρ c main_v0) r) := by
  rw [entry]
  exact finite_flatten hx r

theorem codes_end : W4 m ρ c (Proc.devRef .tc main_v3) = codesResult (m ((c : Thread nD τ).loc main_arg0)) := by
  have h : W3 m ρ c (Proc.devRef .tc main_v1_0) = codesOf (flatten (m ((c : Thread nD τ).loc main_arg0))) := by
    rw [W3_of m ρ c main_v1_0 (by decide)]
    refine (W2_arr m ρ c 1).trans ((codes_array (V1 m ρ) c (entry_finite m ρ c hx)).trans ?_)
    rw [entry]
  refine Eq.trans ?_ (codes_reshaped _)
  rw [← h]
  show StableHlo.after hostOps2 (W3 m ρ c) (Proc.devRef .tc main_v3) = _
  after_results
  try rfl

theorem scales_end : W4 m ρ c (Proc.devRef .tc main_v4) = scalesResult (m ((c : Thread nD τ).loc main_arg0)) := by
  have h : W3 m ρ c (Proc.devRef .tc main_v1_1) = scalesOf (flatten (m ((c : Thread nD τ).loc main_arg0))) := by
    rw [W3_of m ρ c main_v1_1 (by decide)]
    refine (W2_arr m ρ c 2).trans ((scales_array (V1 m ρ) c (entry_finite m ρ c hx)).trans ?_)
    rw [entry]
  refine Eq.trans ?_ (scales_reshaped _)
  rw [← h]
  show StableHlo.after hostOps2 (W3 m ρ c) (Proc.devRef .tc main_v4) = _
  after_results
  try rfl

theorem projection_end : W4 m ρ c (Proc.devRef .tc main_v2) = projection (m ((c : Thread nD τ).loc main_arg0))
    (m ((c : Thread nD τ).loc main_arg1)) (m ((c : Thread nD τ).loc main_arg2)) (m ((c : Thread nD τ).loc main_arg3)) := by
  have h : V2 m ρ c main_v1_2 = valuesOf (flatten (m ((c : Thread nD τ).loc main_arg0))) := by
    refine (W2_arr m ρ c 3).trans ((values_array (V1 m ρ) c (entry_finite m ρ c hx)).trans ?_)
    rw [entry]
  rw [W4_of m ρ c main_v2 (by decide)]
  refine (W3_arr m ρ c 4).trans ((product_array (V2 m ρ) c).trans ?_)
  rw [h, show V2 m ρ c main_arg1 = _ from W2_args m ρ c main_arg1 (by decide), show V2 m ρ c main_arg2 = _ from W2_args m ρ c main_arg2 (by decide),
    show V2 m ρ c main_arg3 = _ from W2_args m ρ c main_arg3 (by decide)]
  exact product_values _ _ _ _

end

-- the implicit arguments of the launch's rule are found by unifying its conclusion with this one, which takes unfolding
-- plain definitions in a metavariable's type
set_option backward.isDefEq.respectTransparency.types false in
/-- The run: every buffer of the main program ends at its last contents. -/
theorem run_all : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ)))
        from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The run: results named, arguments as launched. -/
theorem run (hx : ∀ (c : Dev nD) b t, Finite (row (m ((c : Thread nD τ).loc main_arg0)) b t)) :
    θ_run defs (onTc (τ := τ) (main (F := Ideal))) ⟨m, fun _ => 0, ρ⟩ (fun r => ∀ c : Dev nD,
      r.2.mem ((c : Thread nD τ).loc main_v2) = projection (m ((c : Thread nD τ).loc main_arg0)) (m ((c : Thread nD τ).loc main_arg1))
          (m ((c : Thread nD τ).loc main_arg2)) (m ((c : Thread nD τ).loc main_arg3))
      ∧ r.2.mem ((c : Thread nD τ).loc main_v3) = codesResult (m ((c : Thread nD τ).loc main_arg0))
      ∧ r.2.mem ((c : Thread nD τ).loc main_v4) = scalesResult (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun r h c =>
    ⟨(h c _ (mem_uc main_v2 (by decide))).trans (projection_end m ρ c (hx c)),
     (h c _ (mem_uc main_v3 (by decide))).trans (codes_end m ρ c (hx c)),
     (h c _ (mem_uc main_v4 (by decide))).trans (scales_end m ρ c (hx c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Proof.KernelRun

end
-- ==== Proof.ReferencePoint.lean ====
/- What the reference computes, element by element. -/
module

public import proofs.«01_k».proof.Proof.Gen.ReferenceIdeal.Frame
public import proofs.«01_k».proof.Proof.Model
public import Idealize.ShloMosaic.Lib.Pipeline.ValueKit

@[expose] public section

set_option maxRecDepth 16384

noncomputable section

namespace Cert.Proof.ReferencePoint

open Idealize.ShloMosaic Idealize.ShloMosaic.TcCoe Idealize.ShloMosaic.Tactic Idealize.SL.Sem

/-- A sum over the first axis of a rank-three array, at any sizes. -/
theorem sum_first {a b c : ℕ} (v : FVec Ideal (⟨3, ![a, b, c]⟩ : Shape) .f32) (acc : BitVec (FTy.bits .f32))
    (h : (⟨3, ![a, b, c]⟩ : Shape).Reduces [0] (⟨2, ![b, c]⟩ : Shape)) (hφ : FKind.Formats .f32)
    (hacc : acc = FKind.add.neutral .f32 hφ) (j : Fin b) (k : Fin c) :
    (multiReduction .add [0] (⟨2, ![b, c]⟩ : Shape) v acc h hφ hacc (ix2 j k) : EReal) = ∑ i : Fin a, (v (ix3 i j k) : EReal) :=
  Ideal.reduceAdd_r3_a0 h v (ix2 j k)

/-- The largest element along the last axis of a rank-three array, at any sizes. -/
theorem max_last {a b c : ℕ} (v : FVec Ideal (⟨3, ![a, b, c]⟩ : Shape) .f32) (acc : BitVec (FTy.bits .f32))
    (h : (⟨3, ![a, b, c]⟩ : Shape).Reduces [2] (⟨2, ![a, b]⟩ : Shape)) (hφ : FKind.Formats .f32)
    (hacc : acc = FKind.maximumf.neutral .f32 hφ) (i : Fin a) (j : Fin b) :
    (multiReduction .maximumf [2] (⟨2, ![a, b]⟩ : Shape) v acc h hφ hacc (ix2 i j) : EReal)
      = (Finset.univ : Finset (Fin c)).fold max (Ideal.ofBits .f32 acc) (fun k => (v (ix3 i j k) : EReal)) := by
  have h1 : (multiReduction .maximumf [2] (⟨2, ![a, b]⟩ : Shape) v acc h hφ hacc (ix2 i j) : EReal)
      = reduceFold h (max : EReal → EReal → EReal) (Ideal.ofBits .f32 acc) (fun i => (v i : EReal)) (ix2 i j) := rfl
  rw [h1, reduceFold_eq_fold]
  exact h.fold_fiber_r3_a2 (ix2 i j) max _ _

section
open Cert.ReferenceIdeal Cert.ReferenceIdeal.Gen

/-- The largest magnitudes of the groups, as the body states them. -/
def amaxR (x : Vec Ideal S3x256x4096 .bf16) : FVec Ideal S768x128 .f32 :=
  multiReduction .maximumf [2] S768x128 (absf (k0_pay2 x)) 0xFF800000#32 reduces_S768x128x32_S768x128 (.inl rfl) rfl

/-- The shared exponents from the largest magnitudes. -/
def expoR (a : FVec Ideal S768x128 .f32) : IVec S768x128 32 :=
  select (cmpf .oeq a (broadcast S768x128 (Scalar.ofBits .f32 0x00000000#32))) (broadcast S768x128 0#32)
    (fptosi 32 (maximumf (addf (floor (divf (log (mulf a (broadcast S768x128 (Scalar.ofBits .f32 0x3B124925#32))))
      (log (broadcast S768x128 (Scalar.ofBits .f32 0x40000000#32))))) (broadcast S768x128 (Scalar.ofBits .f32 0x3F800000#32)))
      (broadcast S768x128 (Scalar.ofBits .f32 0xC2FC0000#32))))

theorem pay3_eq (x : Vec Ideal S3x256x4096 .bf16) : k0_pay3 x = expoR (amaxR x) := rfl

/-- Row `256 b + t` of the token array, as a row. -/
def row (x : Vec Ideal S3x256x4096 .bf16) (b : Fin 3) (t : Fin 256) : Fin 4096 → EReal := fun d => x (ix3 b t d)

/-- Its place among the flattened tokens. -/
def flat (b : Fin 3) (t : Fin 256) : Fin 768 := ⟨b.val * 256 + t.val, by omega⟩

theorem expoR_at (a : FVec Ideal S768x128 .f32) (r : Fin 768) (g : Fin 128) : expoR a (ix2 r g) = plainExpo (a (ix2 r g)) := by
  pointwise [expoR]
  rw [ofBits_third, ofBits_two, ofBits_low]
  rfl

theorem wide_at (x : Vec Ideal S3x256x4096 .bf16) (b : Fin 3) (t : Fin 256) (g : Fin 128) (i : Fin 32) :
    (k0_pay2 x (ix3 (flat b t) g i) : EReal) = row x b t ⟨g.val * 32 + i.val, by omega⟩ := by
  pointwise [k0_pay2, flat, row]

theorem amaxR_at (x : Vec Ideal S3x256x4096 .bf16) (b : Fin 3) (t : Fin 256) (g : Fin 128) :
    (amaxR x (ix2 (flat b t) g) : EReal) = groupMax fun i => row x b t ⟨g.val * 32 + i.val, by omega⟩ := by
  refine (max_last _ _ _ _ _ _ _).trans ?_
  unfold groupMax
  have hb : Ideal.ofBits .f32 0xFF800000#32 = ⊥ := by
    rw [ofBits_f32]
    have hs : ((0xFF800000#32).extractLsb' 31 1 == 1#1) = true := by decide
    have he : ((0xFF800000#32).extractLsb' 23 8).toNat = 255 := by decide
    have hf : ((0xFF800000#32).extractLsb' 0 23).toNat = 0 := by decide
    simp only [Ideal.ieee, Nat.reduceAdd, hs, he, hf]
    norm_num
  rw [hb]
  congr 1
  funext i
  show max (k0_pay2 x (ix3 (flat b t) g i) : EReal) (-(k0_pay2 x (ix3 (flat b t) g i) : EReal)) = _
  rw [wide_at]

variable {x : Vec Ideal S3x256x4096 .bf16} (hx : ∀ b t, Finite (row x b t))
include hx

theorem expo_at (b : Fin 3) (t : Fin 256) (g : Fin 128) :
    k0_pay3 x (ix2 (flat b t) g) = BitVec.ofInt 32 (rowExpo (row x b t) g) := by
  rw [pay3_eq, expoR_at, amaxR_at]
  exact plainExpo_eq _ (groupMax_nonneg _) (groupMax_le _ fun _ => hx b t _)

/-- The codes, on the flattened tokens. -/
theorem codes_at (b : Fin 3) (t : Fin 256) (g : Fin 128) (i : Fin 32) :
    (k0_pay4 x (ix3 (flat b t) g i) : EReal) = rowCode (row x b t) ⟨g.val * 32 + i.val, by omega⟩ := by
  obtain ⟨h1, h2⟩ := rowExpo_bounds (hx b t) g
  have hg : grp ⟨g.val * 32 + i.val, by omega⟩ = g := Fin.ext (by show (g.val * 32 + i.val) / 32 = g.val; omega)
  unfold rowCode codeOf
  rw [hg, ← exp2_down h1 h2, ← expo_at hx, ← wide_at]
  pointwise [k0_pay4]
  rfl

/-- The scales, on the flattened tokens. -/
theorem scales_at (b : Fin 3) (t : Fin 256) (g : Fin 128) :
    k0_pay5 x (ix2 (flat b t) g) = rowScale (row x b t) g := by
  obtain ⟨h1, h2⟩ := rowExpo_bounds (hx b t) g
  unfold rowScale
  rw [← scale_word h1 h2, ← expo_at hx]
  pointwise [k0_pay5]

omit hx

/-- The codes result. -/
theorem pay6_at (c : FVec Ideal S768x128x32 .fp8e4m3) (b : Fin 3) (t : Fin 256) (d : Fin 4096) :
    (shapeCast S3x256x4096 c shapeCasts_S768x128x32_S3x256x4096 (ix3 b t d) : EReal)
      = c (ix3 (flat b t) (grp d) ⟨d.val % 32, by omega⟩) := by
  pointwise [flat, grp]

/-- The scales result. -/
theorem pay7_at (c : IVec S768x128 8) (b : Fin 3) (t : Fin 256) (g : Fin 128) :
    shapeCast S3x256x128 c shapeCasts_S768x128_S3x256x128 (ix3 b t g) = c (ix2 (flat b t) g) := by
  pointwise [flat]

/-- One group's product, scaled: what is summed over the groups. -/
def part (c : FVec Ideal S768x128x32 .fp8e4m3) (s : IVec S768x128 8) (ws : Vec Ideal S128x28672 .i8) (wc : Vec Ideal S4096x28672 .fp8e4m3) :
    FVec Ideal S128x768x28672 .f32 :=
  mulf (mulf (matmul dot_S128x768x32_S128x32x28672_S128x768x28672_2_1_1_2_0_0 none
      (transpose S128x768x32 [1, 0, 2] c transposes_S768x128x32_p1_0_2_S128x768x32)
      (shapeCast S128x32x28672 wc shapeCasts_S4096x28672_S128x32x28672 : FVec Ideal S128x32x28672 .fp8e4m3)
      (constant S128x768x28672 .f32 0x00000000#32))
    (broadcastTo S128x768x28672 (shapeCast S128x768x1 (transpose S128x768 [1, 0]
      (exp2 (sitofp .f32 (subi (extui 32 s natLt_8_32) (broadcast S768x128 127#32))) : FVec Ideal S768x128 .f32)
      transposes_S768x128_p1_0_S128x768 : FVec Ideal S128x768 .f32) shapeCasts_S128x768_S128x768x1 : FVec Ideal S128x768x1 .f32)
      broadcasts_S128x768x1_S128x768x28672))
    (broadcastTo S128x768x28672 (shapeCast S128x1x28672
      (exp2 (sitofp .f32 (subi (extui 32 ws natLt_8_32) (broadcast S128x28672 127#32))) : FVec Ideal S128x28672 .f32)
      shapeCasts_S128x28672_S128x1x28672 : FVec Ideal S128x1x28672 .f32) broadcasts_S128x1x28672_S128x768x28672)

theorem part_at (c : FVec Ideal S768x128x32 .fp8e4m3) (s : IVec S768x128 8) (ws : Vec Ideal S128x28672 .i8) (wc : Vec Ideal S4096x28672 .fp8e4m3)
    (g : Fin 128) (r : Fin 768) (n : Fin 28672) :
    (part c s ws wc (ix3 g r n) : EReal) = (∑ i : Fin 32, (c (ix3 r g i) : EReal) * (wc (ix2 ⟨g.val * 32 + i.val, by omega⟩ n) : EReal))
      * Ideal.exp2 ((((IntOp.subi (BitVec.setWidth 32 (s (ix2 r g))) 127#32).toInt : ℤ) : ℝ) : EReal)
      * Ideal.exp2 ((((IntOp.subi (BitVec.setWidth 32 (ws (ix2 g n))) 127#32).toInt : ℤ) : ℝ) : EReal) := by
  pointwise [part]
  rfl

/-- The body's projection, from the groups' scaled products on. -/
theorem pay1_eq (c : FVec Ideal S768x128x32 .fp8e4m3) (s : IVec S768x128 8) (ws : Vec Ideal S128x28672 .i8) (wc : Vec Ideal S4096x28672 .fp8e4m3)
    (res : Vec Ideal S3x256x28672 .bf16) : k0_pay1 c s ws wc res = truncf .bf16 (addf (shapeCast S3x256x28672
      (multiReduction .add [0] S768x28672 (part c s ws wc) 0x00000000#32 reduces_S128x768x28672_S768x28672 (.inl rfl) rfl : FVec Ideal S768x28672 .f32)
      shapeCasts_S768x28672_S3x256x28672 : FVec Ideal S3x256x28672 .f32) (extf .f32 (res : FVec Ideal S3x256x28672 .bf16) bitsLt_bf16_f32)) bitsLt_bf16_f32 := by
  chain_rfl

theorem sum_parts (p : FVec Ideal S128x768x28672 .f32) (r : Fin 768) (n : Fin 28672) :
    ((multiReduction .add [0] S768x28672 p 0x00000000#32 reduces_S128x768x28672_S768x28672 (.inl rfl) rfl : FVec Ideal S768x28672 .f32) (ix2 r n) : EReal)
      = ∑ g : Fin 128, (p (ix3 g r n) : EReal) :=
  sum_first (a := 128) (b := 768) (c := 28672) p 0x00000000#32 reduces_S128x768x28672_S768x28672 (.inl rfl) rfl r n

theorem residual_at (v : FVec Ideal S768x28672 .f32) (res : Vec Ideal S3x256x28672 .bf16) (b : Fin 3) (t : Fin 256) (n : Fin 28672) :
    ((truncf .bf16 (addf (shapeCast S3x256x28672 v shapeCasts_S768x28672_S3x256x28672 : FVec Ideal S3x256x28672 .f32)
      (extf .f32 (res : FVec Ideal S3x256x28672 .bf16) bitsLt_bf16_f32)) bitsLt_bf16_f32 : FVec Ideal S3x256x28672 .bf16) (ix3 b t n) : EReal)
      = (v (ix2 (flat b t) n) : EReal) + res (ix3 b t n) := by
  pointwise [flat]

/-- The projection from the groups' scaled products, at an element. -/
theorem pay1_at (c : FVec Ideal S768x128x32 .fp8e4m3) (s : IVec S768x128 8) (ws : Vec Ideal S128x28672 .i8) (wc : Vec Ideal S4096x28672 .fp8e4m3)
    (res : Vec Ideal S3x256x28672 .bf16) (b : Fin 3) (t : Fin 256) (n : Fin 28672) :
    (k0_pay1 c s ws wc res (ix3 b t n) : EReal) = (∑ g : Fin 128, (part c s ws wc (ix3 g (flat b t) n) : EReal)) + res (ix3 b t n) := by
  rw [pay1_eq]
  exact (residual_at _ res b t n).trans (congrArg (fun z : EReal => z + res (ix3 b t n)) (sum_parts _ (flat b t) n))

/-- The reference's projection at an element: the row times the column, and the residual. -/
theorem projection_at {x : Vec Ideal S3x256x4096 .bf16} (hx : ∀ b t, Finite (row x b t)) (wc : Vec Ideal S4096x28672 .fp8e4m3)
    (ws : Vec Ideal S128x28672 .i8) (hs : ∀ g n, 1#8 ≤ ws (ix2 g n) ∧ ws (ix2 g n) ≤ 254#8) (res : Vec Ideal S3x256x28672 .bf16)
    (b : Fin 3) (t : Fin 256) (n : Fin 28672) :
    (k0_pay1 (k0_pay4 x) (k0_pay5 x) ws wc res (ix3 b t n) : EReal)
      = rowDot (row x b t) (fun d => wc (ix2 d n)) (fun g => ws (ix2 g n)) + res (ix3 b t n) := by
  rw [pay1_at, ← rowDot_groups _ _ fun g => hs g n]
  congr 1
  refine Finset.sum_congr rfl fun g _ => ?_
  obtain ⟨h1, h2⟩ := rowExpo_bounds (hx b t) g
  rw [part_at, scales_at hx, rowScale, exp2_scale h1 h2, (weight_scale _ (hs g n).1 (hs g n).2).1]
  congr 2
  exact Finset.sum_congr rfl fun i _ => by rw [codes_at hx]

/-- The codes result at an element. -/
theorem codes_result {x : Vec Ideal S3x256x4096 .bf16} (hx : ∀ b t, Finite (row x b t)) (b : Fin 3) (t : Fin 256) (d : Fin 4096) :
    (k0_pay6 x (ix3 b t d) : EReal) = rowCode (row x b t) d := by
  refine (pay6_at (k0_pay4 x) b t d).trans ((codes_at hx b t (grp d) ⟨d.val % 32, by omega⟩).trans ?_)
  congr 1
  exact Fin.ext (by show d.val / 32 * 32 + d.val % 32 = d.val; omega)

/-- The scales result at an element. -/
theorem scales_result {x : Vec Ideal S3x256x4096 .bf16} (hx : ∀ b t, Finite (row x b t)) (b : Fin 3) (t : Fin 256) (g : Fin 128) :
    k0_pay7 x (ix3 b t g) = rowScale (row x b t) g :=
  (pay7_at (k0_pay5 x) b t g).trans (scales_at hx b t g)

end
end Cert.Proof.ReferencePoint

end
-- ==== Proof.ReferenceRun.lean ====
/- The reference's run: its three result arrays are the payloads of its one grid point over the argument arrays, and the
   argument arrays are as launched. -/
module

public import proofs.«01_k».proof.Proof.ReferencePoint

@[expose] public section

set_option maxRecDepth 16384

noncomputable section

namespace Cert.Proof.ReferenceRun

open Idealize.ShloMosaic Idealize.ShloMosaic.TcCoe Idealize.SL.Sem
open Cert.ReferenceIdeal Cert.ReferenceIdeal.Gen

variable (m : (ℓ : Loc nD τ sig) → Buf (Elt Ideal) ℓ) (ρ : Dev nD → PrngReg)

/-- The one point's block of every window is the whole array. -/
theorem idx : ∀ t : Fin cfg0.N, win0_0.index t = ![0, 0, 0] ∧ win0_1.index t = ![0, 0] ∧ win0_2.index t = ![0, 0]
    ∧ win0_3.index t = ![0, 0, 0] ∧ win0_4.index t = ![0, 0, 0] ∧ win0_5.index t = ![0, 0, 0] ∧ win0_6.index t = ![0, 0, 0] :=
  (by decide +kernel : ∀ t : Fin grid0.N, _)

theorem block0 (c : Dev nD) (t : Fin cfg0.N) : (iblk m c 0 t : Vec Ideal S3x256x4096 .bf16) = m ((c : Thread nD τ).loc main_arg0) := by
  funext y
  blk_ext [iblk, V, idx t]

theorem block1 (c : Dev nD) (t : Fin cfg0.N) : (iblk m c 1 t : Vec Ideal S4096x28672 .fp8e4m3) = m ((c : Thread nD τ).loc main_arg1) := by
  funext y
  blk_ext [iblk, V, idx t]

theorem block2 (c : Dev nD) (t : Fin cfg0.N) : (iblk m c 2 t : Vec Ideal S128x28672 .i8) = m ((c : Thread nD τ).loc main_arg2) := by
  funext y
  blk_ext [iblk, V, idx t]

theorem block3 (c : Dev nD) (t : Fin cfg0.N) : (iblk m c 3 t : Vec Ideal S3x256x28672 .bf16) = m ((c : Thread nD τ).loc main_arg3) := by
  funext y
  blk_ext [iblk, V, idx t]

/-- The projection's array after the run. -/
theorem final4 (c : Dev nD) : (dats m 0 c).arrAt 4 cfg0.N
    = k0_pay1 (k0_pay4 (m ((c : Thread nD τ).loc main_arg0))) (k0_pay5 (m ((c : Thread nD τ).loc main_arg0)))
        (m ((c : Thread nD τ).loc main_arg2)) (m ((c : Thread nD τ).loc main_arg1)) (m ((c : Thread nD τ).loc main_arg3)) := by
  refine (dats m 0 c).arrAt_eq_of_after_last 4 t0_0 (by decide +kernel) _ fun j => ?_
  blk_simp
  rw [after0_4]
  frame_out
  rw [block0, block1, block2, block3]
  blk_ext [idx t0_0]

/-- The codes' array after the run. -/
theorem final5 (c : Dev nD) : (dats m 0 c).arrAt 5 cfg0.N = k0_pay6 (m ((c : Thread nD τ).loc main_arg0)) := by
  refine (dats m 0 c).arrAt_eq_of_after_last 5 t0_0 (by decide +kernel) _ fun j => ?_
  blk_simp
  rw [after0_5]
  frame_out
  rw [block0]
  blk_ext [idx t0_0]

/-- The scales' array after the run. -/
theorem final6 (c : Dev nD) : (dats m 0 c).arrAt 6 cfg0.N = k0_pay7 (m ((c : Thread nD τ).loc main_arg0)) := by
  refine (dats m 0 c).arrAt_eq_of_after_last 6 t0_0 (by decide +kernel) _ fun j => ?_
  blk_simp
  rw [after0_6]
  frame_out
  rw [block0]
  blk_ext [idx t0_0]

/-- The run: results named, arguments as launched. -/
theorem run : θ_run defs (onTc (τ := τ) (main (F := Ideal))) ⟨m, fun _ => 0, ρ⟩ fun r => ∀ c : Dev nD,
    r.2.mem ((c : Thread nD τ).loc main_v0_0)
        = k0_pay1 (k0_pay4 (m ((c : Thread nD τ).loc main_arg0))) (k0_pay5 (m ((c : Thread nD τ).loc main_arg0)))
            (m ((c : Thread nD τ).loc main_arg2)) (m ((c : Thread nD τ).loc main_arg1)) (m ((c : Thread nD τ).loc main_arg3))
    ∧ r.2.mem ((c : Thread nD τ).loc main_v0_1) = k0_pay6 (m ((c : Thread nD τ).loc main_arg0))
    ∧ r.2.mem ((c : Thread nD τ).loc main_v0_2) = k0_pay7 (m ((c : Thread nD τ).loc main_arg0))
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h c).1 4).trans (final4 m c), ((h c).1 5).trans (final5 m c), ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.Proof.ReferenceRun

end
-- ==== Proof.Agree.lean ====
/- The reference's results are the kernel's: both are the same functions of the arguments, element by element. -/
module

public import proofs.«01_k».proof.Proof.KernelRun
public import proofs.«01_k».proof.Proof.ReferenceRun

@[expose] public section

set_option maxRecDepth 16384

noncomputable section

namespace Cert.Proof.Agree

open Idealize.ShloMosaic
open Cert.ReferenceIdeal Cert.ReferenceIdeal.Gen
open Cert.Proof.KernelRun (codesResult scalesResult projection)
open Cert.Proof.ReferencePoint (row)

/-- An index of rank three is its three coordinates. -/
theorem index_eq {a b c : ℕ} (y : (⟨3, ![a, b, c]⟩ : Shape).Idx) : ∃ (i : Fin a) (j : Fin b) (k : Fin c), y = ix3 i j k :=
  ⟨y 0, y 1, y 2, by funext d; fin_cases d <;> rfl⟩

variable {x : Vec Ideal S3x256x4096 .bf16} (hx : ∀ b t, Finite (row x b t))
include hx

theorem codes : k0_pay6 x = codesResult x := by
  funext y
  obtain ⟨b, t, d, rfl⟩ := index_eq y
  exact ReferencePoint.codes_result hx b t d

theorem scales : k0_pay7 x = scalesResult x := by
  funext y
  obtain ⟨b, t, g, rfl⟩ := index_eq y
  exact ReferencePoint.scales_result hx b t g

theorem projections (w : Vec Ideal S4096x28672 .fp8e4m3) (s : Vec Ideal S128x28672 .i8)
    (hs : ∀ g n, 1#8 ≤ s (ix2 g n) ∧ s (ix2 g n) ≤ 254#8) (res : Vec Ideal S3x256x28672 .bf16) :
    k0_pay1 (k0_pay4 x) (k0_pay5 x) s w res = projection x w s res := by
  funext y
  obtain ⟨b, t, n, rfl⟩ := index_eq y
  exact ReferencePoint.projection_at hx w s hs res b t n

end Cert.Proof.Agree

end
-- ==== Proof.Inputs.lean ====
/- What the precondition says of the arguments: finite tokens, and weight scales that are exponent fields of
   normal numbers. -/
module

public import proofs.«01_k».proof.Pre_normal_inputs
public import proofs.«01_k».proof.Proof.Model
public import Idealize.ShloMosaic.Lib.Pipeline.ValueKit

@[expose] public section

set_option maxRecDepth 16384

noncomputable section

namespace Cert.Proof.Inputs

open Idealize.ShloMosaic
open Cert.Pre_normal_inputs

/-- The side conditions of the precondition's operations. -/
theorem facts : Cert.Pre_normal_inputs.Facts where
  bcast_S_S3x256x4096 := ⟨fun i => i.elim0, fun i => i.elim0⟩
  bcast_S_S128x28672 := ⟨fun i => i.elim0, fun i => i.elim0⟩

/-- The largest finite half-width number. -/
theorem ofBits_top : Ideal.ofBits .bf16 0x7F7F#16 = (top : EReal) := by
  show Ideal.ieee 8 7 0x7F7F#16 = _
  have hs : ((0x7F7F#16).extractLsb' 15 1 == 1#1) = false := by decide
  have he : ((0x7F7F#16).extractLsb' 7 8).toNat = 254 := by decide
  have hf : ((0x7F7F#16).extractLsb' 0 7).toNat = 127 := by decide
  simp only [Ideal.ieee, Nat.reduceAdd, hs, he, hf]
  unfold top
  norm_num

variable [Facts] {x : FVec Ideal S3x256x4096 .bf16} {w : FVec Ideal S4096x28672 .fp8e4m3} {s : IVec S128x28672 8}
  {res : FVec Ideal S3x256x28672 .bf16}

theorem tokens_finite (h : (fn (F := Ideal) x w s res).1 = fun _ => 1#1) (b : Fin 3) (t : Fin 256) (d : Fin 4096) :
    max (x (ix3 b t d) : EReal) (-(x (ix3 b t d) : EReal)) ≤ (top : EReal) := by
  have e : BitVec.ofBool (decide (max (x (ix3 b t d) : EReal) (-(x (ix3 b t d) : EReal)) ≤ Ideal.ofBits .bf16 0x7F7F#16)) = 1#1 :=
    congrFun h (ix3 b t d)
  rw [ofBits_top] at e
  by_contra hc
  rw [decide_eq_false hc] at e
  exact absurd e (by decide)

theorem scales_normal (h : (fn (F := Ideal) x w s res).2 = fun _ => 1#1) (g : Fin 128) (n : Fin 28672) :
    1#8 ≤ s (ix2 g n) ∧ s (ix2 g n) ≤ 254#8 := by
  have e : IntOp.andi (IntOp.cmpi .uge (s (ix2 g n)) 1#8) (IntOp.cmpi .ule (s (ix2 g n)) 254#8) = 1#1 := congrFun h (ix2 g n)
  generalize s (ix2 g n) = v at e ⊢
  revert v
  decide +kernel

end Cert.Proof.Inputs

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Agree
public import proofs.«01_k».proof.Proof.Inputs
public import Idealize.ShloMosaic.Adequacy
public import Idealize.ShloMosaic.Init

@[expose] public section

noncomputable section

namespace Cert.Proof

open Idealize.ShloMosaic Idealize.ShloMosaic.TcCoe Idealize.SL.Sem

/-- Under the precondition, from memories agreeing on the arguments, kernel and reference end with equal results. -/
theorem equal : Cert.algebraic_KernelIdeal_ReferenceIdeal_pre_normal_inputs (hKernelIdeal := Cert.KernelIdeal.Gen.facts)
    (hReferenceIdeal := Cert.ReferenceIdeal.Gen.facts) (hPre_normal_inputs := Inputs.facts) := by
  intro m g m' g' hpre hargs
  letI := Inputs.facts
  have hx : ∀ (c : Dev Cert.KernelIdeal.nD) b t,
      Finite (KernelRun.row (m ((c.tc : Thread Cert.KernelIdeal.nD Cert.KernelIdeal.τ).loc Cert.KernelIdeal.main_arg0)) b t) :=
    fun c b t d => Inputs.tokens_finite (hpre c).1 b t d
  refine ⟨fun c => _, fun c => _, fun c => _, KernelRun.run m g hx, ?_⟩
  refine (θ_run _ _ _).mono (fun r h c => ?_) (ReferenceRun.run m' g')
  obtain ⟨h0, h1, h2, k⟩ := h c
  obtain ⟨a0, a1, a2, a3⟩ := hargs c
  refine ⟨h0.trans ?_, h1.trans ?_, h2.trans ?_, k⟩
  · rw [a0, a1, a2, a3]
    exact Agree.projections (hx c) _ _ (fun i n => Inputs.scales_normal (hpre c).2 i n) _
  · rw [a0]
    exact Agree.codes (hx c)
  · rw [a0]
    exact Agree.scales (hx c)

theorem claim : Cert.Claim :=
  ⟨Cert.Kernel.Gen.facts, Cert.KernelIdeal.Gen.facts, Cert.ReferenceIdeal.Gen.facts, Inputs.facts,
    fun m ρ _ => Cert.Kernel.Gen.frame m ρ,
    fun m ρ _ => Cert.KernelIdeal.Gen.frame m ρ,
    fun m ρ _ => Cert.KernelIdeal.Gen.frame m ρ,
    fun m ρ _ => Cert.ReferenceIdeal.Gen.frame m ρ,
    fun m ρ _ => Cert.ReferenceIdeal.Gen.frame m ρ,
    trivial, equal⟩

end Cert.Proof

end
